-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)) →
    ∃ (v0 : (c : Dev Cert.PostIdeal.nD) → Buf (Elt Ideal) ((c.tc : Thread Cert.PostIdeal.nD Cert.PostIdeal.τ).loc Cert.PostIdeal.main_v9)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v82) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hPost : Cert.Post.Facts) (hPostIdeal : Cert.PostIdeal.Facts) (hPostRefIdeal : Cert.PostRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Post (hPost := hPost)
    ∧ quiescent_PostIdeal (hPostIdeal := hPostIdeal)
    ∧ quiescent_PostRefIdeal (hPostRefIdeal := hPostRefIdeal)
    ∧ preserves_Kernel_KernelIdeal
    ∧ preserves_InProj_InProjIdeal
    ∧ algebraic_InProjIdeal_InProjRefIdeal (hInProjIdeal := hInProjIdeal) (hInProjRefIdeal := hInProjRefIdeal)
    ∧ preserves_Post_PostIdeal
    ∧ algebraic_PostIdeal_PostRefIdeal (hPostIdeal := hPostIdeal) (hPostRefIdeal := hPostRefIdeal)
-- ==== Kernel.lean ====
abbrev S4x8192x3840 : Shape := ⟨3, ![4, 8192, 3840]⟩
abbrev S12x32 : Shape := ⟨2, ![12, 32]⟩
abbrev S6x32 : Shape := ⟨2, ![6, 32]⟩
abbrev S383 : Shape := ⟨1, ![383]⟩
abbrev S_ : Shape := ⟨0, ![]⟩
abbrev S383x1 : Shape := ⟨2, ![383, 1]⟩
abbrev S6x383 : Shape := ⟨2, ![6, 383]⟩
abbrev S6x1 : Shape := ⟨2, ![6, 1]⟩
abbrev S6x384 : Shape := ⟨2, ![6, 384]⟩
abbrev S1x6x1x384 : Shape := ⟨4, ![1, 6, 1, 384]⟩
abbrev S1x6x128x384 : Shape := ⟨4, ![1, 6, 128, 384]⟩
abbrev S6x49152 : Shape := ⟨2, ![6, 49152]⟩
abbrev S6x49024 : Shape := ⟨2, ![6, 49024]⟩
abbrev S6x128x383 : Shape := ⟨3, ![6, 128, 383]⟩
abbrev S6x128x256 : Shape := ⟨3, ![6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x6x128x256 : Shape := ⟨4, ![1, 6, 128, 256]⟩
abbrev S2x6x128x256 : Shape := ⟨4, ![2, 6, 128, 256]⟩
abbrev S1x2x6x128x256 : Shape := ⟨5, ![1, 2, 6, 128, 256]⟩
abbrev S3x2x6x128x256 : Shape := ⟨5, ![3, 2, 6, 128, 256]⟩
abbrev S3x2x3x256x256 : Shape := ⟨5, ![3, 2, 3, 256, 256]⟩
abbrev S4x8192x384 : Shape := ⟨3, ![4, 8192, 384]⟩
abbrev S1x2048x128 : Shape := ⟨3, ![1, 2048, 128]⟩
abbrev S3x2x1x256x256 : Shape := ⟨5, ![3, 2, 1, 256, 256]⟩
abbrev S2048x128 : Shape := ⟨2, ![2048, 128]⟩
abbrev S128x128 : Shape := ⟨2, ![128, 128]⟩
abbrev S1x128x128 : Shape := ⟨3, ![1, 128, 128]⟩
abbrev S256x128 : Shape := ⟨2, ![256, 128]⟩
abbrev S256x256 : Shape := ⟨2, ![256, 256]⟩
abbrev S1x1x1x256x256 : Shape := ⟨5, ![1, 1, 1, 256, 256]⟩
abbrev S256x1 : Shape := ⟨2, ![256, 1]⟩

abbrev nBuf : Space → Nat
  | .hbm => 282
  | .vmem => 17
  | .smem => 0
  | _ => 0

abbrev hbmTy0_0 (i : Nat) : BufTy := match i % 128 with
  | 0 => ⟨S4x8192x3840, .f32⟩
  | 1 => ⟨S12x32, .f32⟩
  | 2 => ⟨S6x32, .f32⟩
  | 3 => ⟨S383, .i32⟩
  | 4 => ⟨S_, .i32⟩
  | 5 => ⟨S383, .i32⟩
  | 6 => ⟨S383, .i32⟩
  | 7 => ⟨S_, .i32⟩
  | 8 => ⟨S383, .i32⟩
  | 9 => ⟨S383, .i32⟩
  | 10 => ⟨S_, .i32⟩
  | 11 => ⟨S383, .i32⟩
  | 12 => ⟨S383, .i32⟩
  | 13 => ⟨S_, .i32⟩
  | 14 => ⟨S383, .i32⟩
  | 15 => ⟨S383, .i32⟩
  | 16 => ⟨S383, .f32⟩
  | 17 => ⟨S_, .f32⟩
  | 18 => ⟨S383, .f32⟩
  | 19 => ⟨S383, .f32⟩
  | 20 => ⟨S383, .f32⟩
  | 21 => ⟨S_, .f32⟩
  | 22 => ⟨S383, .f32⟩
  | 23 => ⟨S383, .f32⟩
  | 24 => ⟨S_, .f32⟩
  | 25 => ⟨S383, .f32⟩
  | 26 => ⟨S383, .f32⟩
  | 27 => ⟨S383, .i32⟩
  | 28 => ⟨S_, .i32⟩
  | 29 => ⟨S383, .i32⟩
  | 30 => ⟨S383, .i32⟩
  | 31 => ⟨S_, .i32⟩
  | 32 => ⟨S383, .i32⟩
  | 33 => ⟨S383, .i32⟩
  | 34 => ⟨S_, .i32⟩
  | 35 => ⟨S383, .i32⟩
  | 36 => ⟨S383, .i1⟩
  | 37 => ⟨S383, .i32⟩
  | 38 => ⟨S_, .i32⟩
  | 39 => ⟨S383, .i32⟩
  | 40 => ⟨S383, .i1⟩
  | 41 => ⟨S_, .i32⟩
  | 42 => ⟨S383, .i32⟩
  | 43 => ⟨S383, .i32⟩
  | 44 => ⟨S383, .i32⟩
  | 45 => ⟨S383x1, .i32⟩
  | 46 => ⟨S6x383, .f32⟩
  | 47 => ⟨S_, .f32⟩
  | 48 => ⟨S6x1, .f32⟩
  | 49 => ⟨S6x384, .f32⟩
  | 50 => ⟨S1x6x1x384, .f32⟩
  | 51 => ⟨S1x6x128x384, .f32⟩
  | 52 => ⟨S6x49152, .f32⟩
  | 53 => ⟨S6x49024, .f32⟩
  | 54 => ⟨S6x128x383, .f32⟩
  | 55 => ⟨S6x128x256, .f32⟩
  | 56 => ⟨S_, .f32⟩
  | 57 => ⟨S6x128x256, .f32⟩
  | 58 => ⟨S6x128x256, .f32⟩
  | 59 => ⟨S128, .i32⟩
  | 60 => ⟨S128x1, .i32⟩
  | 61 => ⟨S256, .i32⟩
  | 62 => ⟨S1x256, .i32⟩
  | 63 => ⟨S_, .i32⟩
  | 64 => ⟨S128x1, .i32⟩
  | 65 => ⟨S128x1, .i32⟩
  | 66 => ⟨S128x256, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S_, .i32⟩
  | 73 => ⟨S128x256, .i32⟩
  | 74 => ⟨S128x256, .i1⟩
  | 75 => ⟨S128x256, .i1⟩
  | 76 => ⟨S_, .f32⟩
  | 77 => ⟨S_, .f32⟩
  | 78 => ⟨S6x128x256, .i1⟩
  | 79 => ⟨S6x128x256, .f32⟩
  | 80 => ⟨S6x128x256, .f32⟩
  | 81 => ⟨S_, .i32⟩
  | 82 => ⟨S1x256, .i32⟩
  | 83 => ⟨S1x256, .i1⟩
  | 84 => ⟨S128x256, .i1⟩
  | 85 => ⟨S128x256, .i1⟩
  | 86 => ⟨S_, .f32⟩
  | 87 => ⟨S_, .f32⟩
  | 88 => ⟨S6x128x256, .i1⟩
  | 89 => ⟨S6x128x256, .f32⟩
  | 90 => ⟨S6x128x256, .f32⟩
  | 91 => ⟨S1x6x128x256, .f32⟩
  | 92 => ⟨S1x6x128x256, .f32⟩
  | 93 => ⟨S2x6x128x256, .f32⟩
  | 94 => ⟨S383, .i32⟩
  | 95 => ⟨S_, .i32⟩
  | 96 => ⟨S383, .i32⟩
  | 97 => ⟨S383, .i32⟩
  | 98 => ⟨S_, .i32⟩
  | 99 => ⟨S383, .i32⟩
  | 100 => ⟨S383, .i32⟩
  | 101 => ⟨S_, .i32⟩
  | 102 => ⟨S383, .i32⟩
  | 103 => ⟨S383, .i32⟩
  | 104 => ⟨S_, .i32⟩
  | 105 => ⟨S383, .i32⟩
  | 106 => ⟨S383, .i32⟩
  | 107 => ⟨S383, .f32⟩
  | 108 => ⟨S_, .f32⟩
  | 109 => ⟨S383, .f32⟩
  | 110 => ⟨S383, .f32⟩
  | 111 => ⟨S383, .f32⟩
  | 112 => ⟨S_, .f32⟩
  | 113 => ⟨S383, .f32⟩
  | 114 => ⟨S383, .f32⟩
  | 115 => ⟨S_, .f32⟩
  | 116 => ⟨S383, .f32⟩
  | 117 => ⟨S383, .f32⟩
  | 118 => ⟨S383, .i32⟩
  | 119 => ⟨S_, .i32⟩
  | 120 => ⟨S383, .i32⟩
  | 121 => ⟨S383, .i32⟩
  | 122 => ⟨S_, .i32⟩
  | 123 => ⟨S383, .i32⟩
  | 124 => ⟨S383, .i32⟩
  | 125 => ⟨S_, .i32⟩
  | 126 => ⟨S383, .i32⟩
  | 127 => ⟨S383, .i1⟩
  | _ => ⟨S4x8192x3840, .f32⟩

abbrev hbmTy0_1 (i : Nat) : BufTy := match i % 128 with
  | 0 => ⟨S383, .i32⟩
  | 1 => ⟨S_, .i32⟩
  | 2 => ⟨S383, .i32⟩
  | 3 => ⟨S383, .i1⟩
  | 4 => ⟨S_, .i32⟩
  | 5 => ⟨S383, .i32⟩
  | 6 => ⟨S383, .i32⟩
  | 7 => ⟨S383, .i32⟩
  | 8 => ⟨S383x1, .i32⟩
  | 9 => ⟨S6x383, .f32⟩
  | 10 => ⟨S_, .f32⟩
  | 11 => ⟨S6x1, .f32⟩
  | 12 => ⟨S6x384, .f32⟩
  | 13 => ⟨S1x6x1x384, .f32⟩
  | 14 => ⟨S1x6x128x384, .f32⟩
  | 15 => ⟨S6x49152, .f32⟩
  | 16 => ⟨S6x49024, .f32⟩
  | 17 => ⟨S6x128x383, .f32⟩
  | 18 => ⟨S6x128x256, .f32⟩
  | 19 => ⟨S_, .f32⟩
  | 20 => ⟨S6x128x256, .f32⟩
  | 21 => ⟨S6x128x256, .f32⟩
  | 22 => ⟨S128, .i32⟩
  | 23 => ⟨S128x1, .i32⟩
  | 24 => ⟨S256, .i32⟩
  | 25 => ⟨S1x256, .i32⟩
  | 26 => ⟨S_, .i32⟩
  | 27 => ⟨S128x1, .i32⟩
  | 28 => ⟨S128x1, .i32⟩
  | 29 => ⟨S128x256, .i32⟩
  | 30 => ⟨S128x256, .i32⟩
  | 31 => ⟨S128x256, .i32⟩
  | 32 => ⟨S_, .i32⟩
  | 33 => ⟨S128x256, .i32⟩
  | 34 => ⟨S128x256, .i1⟩
  | 35 => ⟨S_, .i32⟩
  | 36 => ⟨S128x256, .i32⟩
  | 37 => ⟨S128x256, .i1⟩
  | 38 => ⟨S128x256, .i1⟩
  | 39 => ⟨S_, .f32⟩
  | 40 => ⟨S_, .f32⟩
  | 41 => ⟨S6x128x256, .i1⟩
  | 42 => ⟨S6x128x256, .f32⟩
  | 43 => ⟨S6x128x256, .f32⟩
  | 44 => ⟨S_, .i32⟩
  | 45 => ⟨S1x256, .i32⟩
  | 46 => ⟨S1x256, .i1⟩
  | 47 => ⟨S128x256, .i1⟩
  | 48 => ⟨S128x256, .i1⟩
  | 49 => ⟨S_, .f32⟩
  | 50 => ⟨S_, .f32⟩
  | 51 => ⟨S6x128x256, .i1⟩
  | 52 => ⟨S6x128x256, .f32⟩
  | 53 => ⟨S6x128x256, .f32⟩
  | 54 => ⟨S1x6x128x256, .f32⟩
  | 55 => ⟨S1x6x128x256, .f32⟩
  | 56 => ⟨S2x6x128x256, .f32⟩
  | 57 => ⟨S383, .i32⟩
  | 58 => ⟨S_, .i32⟩
  | 59 => ⟨S383, .i32⟩
  | 60 => ⟨S383, .i32⟩
  | 61 => ⟨S_, .i32⟩
  | 62 => ⟨S383, .i32⟩
  | 63 => ⟨S383, .i32⟩
  | 64 => ⟨S_, .i32⟩
  | 65 => ⟨S383, .i32⟩
  | 66 => ⟨S383, .i32⟩
  | 67 => ⟨S_, .i32⟩
  | 68 => ⟨S383, .i32⟩
  | 69 => ⟨S383, .i32⟩
  | 70 => ⟨S383, .f32⟩
  | 71 => ⟨S_, .f32⟩
  | 72 => ⟨S383, .f32⟩
  | 73 => ⟨S383, .f32⟩
  | 74 => ⟨S383, .f32⟩
  | 75 => ⟨S_, .f32⟩
  | 76 => ⟨S383, .f32⟩
  | 77 => ⟨S383, .f32⟩
  | 78 => ⟨S_, .f32⟩
  | 79 => ⟨S383, .f32⟩
  | 80 => ⟨S383, .f32⟩
  | 81 => ⟨S383, .i32⟩
  | 82 => ⟨S_, .i32⟩
  | 83 => ⟨S383, .i32⟩
  | 84 => ⟨S383, .i32⟩
  | 85 => ⟨S_, .i32⟩
  | 86 => ⟨S383, .i32⟩
  | 87 => ⟨S383, .i32⟩
  | 88 => ⟨S_, .i32⟩
  | 89 => ⟨S383, .i32⟩
  | 90 => ⟨S383, .i1⟩
  | 91 => ⟨S383, .i32⟩
  | 92 => ⟨S_, .i32⟩
  | 93 => ⟨S383, .i32⟩
  | 94 => ⟨S383, .i1⟩
  | 95 => ⟨S_, .i32⟩
  | 96 => ⟨S383, .i32⟩
  | 97 => ⟨S383, .i32⟩
  | 98 => ⟨S383, .i32⟩
  | 99 => ⟨S383x1, .i32⟩
  | 100 => ⟨S6x383, .f32⟩
  | 101 => ⟨S_, .f32⟩
  | 102 => ⟨S6x1, .f32⟩
  | 103 => ⟨S6x384, .f32⟩
  | 104 => ⟨S1x6x1x384, .f32⟩
  | 105 => ⟨S1x6x128x384, .f32⟩
  | 106 => ⟨S6x49152, .f32⟩
  | 107 => ⟨S6x49024, .f32⟩
  | 108 => ⟨S6x128x383, .f32⟩
  | 109 => ⟨S6x128x256, .f32⟩
  | 110 => ⟨S_, .f32⟩
  | 111 => ⟨S6x128x256, .f32⟩
  | 112 => ⟨S6x128x256, .f32⟩
  | 113 => ⟨S128, .i32⟩
  | 114 => ⟨S128x1, .i32⟩
  | 115 => ⟨S256, .i32⟩
  | 116 => ⟨S1x256, .i32⟩
  | 117 => ⟨S_, .i32⟩
  | 118 => ⟨S128x1, .i32⟩
  | 119 => ⟨S128x1, .i32⟩
  | 120 => ⟨S128x256, .i32⟩
  | 121 => ⟨S128x256, .i32⟩
  | 122 => ⟨S128x256, .i32⟩
  | 123 => ⟨S_, .i32⟩
  | 124 => ⟨S128x256, .i32⟩
  | 125 => ⟨S128x256, .i1⟩
  | 126 => ⟨S_, .i32⟩
  | 127 => ⟨S128x256, .i32⟩
  | _ => ⟨S4x8192x3840, .f32⟩

abbrev hbmTy0_2 (i : Nat) : BufTy := match i % 128 with
  | 0 => ⟨S128x256, .i1⟩
  | 1 => ⟨S128x256, .i1⟩
  | 2 => ⟨S_, .f32⟩
  | 3 => ⟨S_, .f32⟩
  | 4 => ⟨S6x128x256, .i1⟩
  | 5 => ⟨S6x128x256, .f32⟩
  | 6 => ⟨S6x128x256, .f32⟩
  | 7 => ⟨S_, .i32⟩
  | 8 => ⟨S1x256, .i32⟩
  | 9 => ⟨S1x256, .i1⟩
  | 10 => ⟨S128x256, .i1⟩
  | 11 => ⟨S128x256, .i1⟩
  | 12 => ⟨S_, .f32⟩
  | 13 => ⟨S_, .f32⟩
  | 14 => ⟨S6x128x256, .i1⟩
  | 15 => ⟨S6x128x256, .f32⟩
  | 16 => ⟨S6x128x256, .f32⟩
  | 17 => ⟨S1x6x128x256, .f32⟩
  | 18 => ⟨S1x6x128x256, .f32⟩
  | 19 => ⟨S2x6x128x256, .f32⟩
  | 20 => ⟨S1x2x6x128x256, .f32⟩
  | 21 => ⟨S1x2x6x128x256, .f32⟩
  | 22 => ⟨S1x2x6x128x256, .f32⟩
  | 23 => ⟨S3x2x6x128x256, .f32⟩
  | 24 => ⟨S3x2x3x256x256, .f32⟩
  | 25 => ⟨S4x8192x384, .f32⟩
  | _ => ⟨S4x8192x3840, .f32⟩

abbrev hbmTy (i : Nat) : BufTy := match i / 128 with
  | 0 => hbmTy0_0 i
  | 1 => hbmTy0_1 i
  | 2 => hbmTy0_2 i
  | _ => ⟨S4x8192x3840, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S3x2x1x256x256, .f32⟩
  | .local _ .vmem, ⟨11, _⟩ => ⟨S3x2x1x256x256, .f32⟩
  | .local _ .vmem, ⟨12, _⟩ => ⟨S1x2048x128, .f32⟩
  | .local _ .vmem, ⟨13, _⟩ => ⟨S1x2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S4x8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_8 : Ref sig .tc := ⟨.hbm, 38, rfl⟩
abbrev main_v26 : Ref sig .tc := ⟨.hbm, 39, rfl⟩
abbrev main_v27 : Ref sig .tc := ⟨.hbm, 40, rfl⟩
abbrev main_c_9 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_13 : Ref sig .tc := ⟨.hbm, 69, rfl⟩
abbrev main_v52 : Ref sig .tc := ⟨.hbm, 70, rfl⟩
abbrev main_v53 : Ref sig .tc := ⟨.hbm, 71, rfl⟩
abbrev main_c_14 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v57 : Ref sig .tc := ⟨.hbm, 80, rfl⟩
abbrev main_c_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_18 : Ref sig .tc := ⟨.hbm, 95, rfl⟩
abbrev main_v67 : Ref sig .tc := ⟨.hbm, 96, rfl⟩
abbrev main_v68 : Ref sig .tc := ⟨.hbm, 97, rfl⟩
abbrev main_c_19 : Ref sig .tc := ⟨.hbm, 98, rfl⟩
abbrev main_v69 : Ref sig .tc := ⟨.hbm, 99, rfl⟩
abbrev main_v70 : Ref sig .tc := ⟨.hbm, 100, rfl⟩
abbrev main_c_20 : Ref sig .tc := ⟨.hbm, 101, rfl⟩
abbrev main_v71 : Ref sig .tc := ⟨.hbm, 102, rfl⟩
abbrev main_v72 : Ref sig .tc := ⟨.hbm, 103, rfl⟩
abbrev main_c_21 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_22 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_23 : Ref sig .tc := ⟨.hbm, 112, rfl⟩
abbrev main_v79 : Ref sig .tc := ⟨.hbm, 113, rfl⟩
abbrev main_v80 : Ref sig .tc := ⟨.hbm, 114, rfl⟩
abbrev main_cst_24 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_25 : Ref sig .tc := ⟨.hbm, 119, rfl⟩
abbrev main_v84 : Ref sig .tc := ⟨.hbm, 120, rfl⟩
abbrev main_v85 : Ref sig .tc := ⟨.hbm, 121, rfl⟩
abbrev main_c_26 : Ref sig .tc := ⟨.hbm, 122, rfl⟩
abbrev main_v86 : Ref sig .tc := ⟨.hbm, 123, rfl⟩
abbrev main_v87 : Ref sig .tc := ⟨.hbm, 124, rfl⟩
abbrev main_c_27 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_28 : Ref sig .tc := ⟨.hbm, 129, rfl⟩
abbrev main_v91 : Ref sig .tc := ⟨.hbm, 130, rfl⟩
abbrev main_v92 : Ref sig .tc := ⟨.hbm, 131, rfl⟩
abbrev main_c_29 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_30 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_31 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_32 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_33 : Ref sig .tc := ⟨.hbm, 160, rfl⟩
abbrev main_v117 : Ref sig .tc := ⟨.hbm, 161, rfl⟩
abbrev main_v118 : Ref sig .tc := ⟨.hbm, 162, rfl⟩
abbrev main_c_34 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_35 : Ref sig .tc := ⟨.hbm, 167, rfl⟩
abbrev main_call4_v0 : Ref sig .tc := ⟨.hbm, 168, rfl⟩
abbrev main_call4_v1 : Ref sig .tc := ⟨.hbm, 169, rfl⟩
abbrev main_call4_v2 : Ref sig .tc := ⟨.hbm, 170, rfl⟩
abbrev main_v122 : Ref sig .tc := ⟨.hbm, 171, rfl⟩
abbrev main_c_36 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_37 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_c_38 : Ref sig .tc := ⟨.hbm, 186, rfl⟩
abbrev main_v132 : Ref sig .tc := ⟨.hbm, 187, rfl⟩
abbrev main_v133 : Ref sig .tc := ⟨.hbm, 188, rfl⟩
abbrev main_c_39 : Ref sig .tc := ⟨.hbm, 189, rfl⟩
abbrev main_v134 : Ref sig .tc := ⟨.hbm, 190, rfl⟩
abbrev main_v135 : Ref sig .tc := ⟨.hbm, 191, rfl⟩
abbrev main_c_40 : Ref sig .tc := ⟨.hbm, 192, rfl⟩
abbrev main_v136 : Ref sig .tc := ⟨.hbm, 193, rfl⟩
abbrev main_v137 : Ref sig .tc := ⟨.hbm, 194, rfl⟩
abbrev main_c_41 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_42 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_43 : Ref sig .tc := ⟨.hbm, 203, rfl⟩
abbrev main_v144 : Ref sig .tc := ⟨.hbm, 204, rfl⟩
abbrev main_v145 : Ref sig .tc := ⟨.hbm, 205, rfl⟩
abbrev main_cst_44 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_c_45 : Ref sig .tc := ⟨.hbm, 210, rfl⟩
abbrev main_v149 : Ref sig .tc := ⟨.hbm, 211, rfl⟩
abbrev main_v150 : Ref sig .tc := ⟨.hbm, 212, rfl⟩
abbrev main_c_46 : Ref sig .tc := ⟨.hbm, 213, rfl⟩
abbrev main_v151 : Ref sig .tc := ⟨.hbm, 214, rfl⟩
abbrev main_v152 : Ref sig .tc := ⟨.hbm, 215, rfl⟩
abbrev main_c_47 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_c_48 : Ref sig .tc := ⟨.hbm, 220, rfl⟩
abbrev main_v156 : Ref sig .tc := ⟨.hbm, 221, rfl⟩
abbrev main_v157 : Ref sig .tc := ⟨.hbm, 222, rfl⟩
abbrev main_c_49 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_50 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_51 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_c_52 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_c_53 : Ref sig .tc := ⟨.hbm, 251, rfl⟩
abbrev main_v182 : Ref sig .tc := ⟨.hbm, 252, rfl⟩
abbrev main_v183 : Ref sig .tc := ⟨.hbm, 253, rfl⟩
abbrev main_c_54 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_55 : Ref sig .tc := ⟨.hbm, 258, rfl⟩
abbrev main_call7_v0 : Ref sig .tc := ⟨.hbm, 259, rfl⟩
abbrev main_call7_v1 : Ref sig .tc := ⟨.hbm, 260, rfl⟩
abbrev main_call7_v2 : Ref sig .tc := ⟨.hbm, 261, rfl⟩
abbrev main_v187 : Ref sig .tc := ⟨.hbm, 262, rfl⟩
abbrev main_c_56 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_cst_57 : Ref sig .tc := ⟨.hbm, 268, rfl⟩
abbrev main_call8_v0 : Ref sig .tc := ⟨.hbm, 269, rfl⟩
abbrev main_call8_v1 : Ref sig .tc := ⟨.hbm, 270, rfl⟩
abbrev main_call8_v2 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 3, 4], ![false, false, false]⟩

@[reducible] def k0_t1_loop : Scf.Loop 32 :=
  let c0_i32_0 : BitVec 32 := 0#32
  let c16_i32 : BitVec 32 := 16#32
  let v4 : BitVec 32 := Scalar.addi c0_i32_0 c16_i32
  let c1_i32 : BitVec 32 := 1#32
  ⟨c0_i32_0, v4, c1_i32⟩
def k0_off1 (k0_t1 : Fin k0_t1_loop.trips) : Fin 3 → Nat :=
  let c0 : Index := 0#32
  let c0_i32_0 : BitVec 32 := 0#32
  let c1_i32 : BitVec 32 := 1#32
  let arg13 : BitVec 32 := Scf.iv c0_i32_0 c1_i32 k0_t1
  let c16_i32_10 : BitVec 32 := 16#32
  let c0_i32_11 : BitVec 32 := 0#32
  let v7 : BitVec 1 := Scalar.cmpi .eq c16_i32_10 c0_i32_11
  let c1_i32_12 : BitVec 32 := 1#32
  let v8 : BitVec 32 := Scalar.select v7 c1_i32_12 c16_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c0_i32_23 : BitVec 32 := 0#32
  let v36 : BitVec 32 := Scalar.addi v16 c0_i32_23
  let v37 : Index := Scalar.indexCast v36
  let c0_24 : Index := 0#32
  ![0, v37.toNat, 0]
def k0_off2 (k0_t1 : Fin k0_t1_loop.trips) : Fin 3 → Nat :=
  let c0_27 : Index := 0#32
  let c0_i32_0 : BitVec 32 := 0#32
  let c1_i32 : BitVec 32 := 1#32
  let arg13 : BitVec 32 := Scf.iv c0_i32_0 c1_i32 k0_t1
  let c16_i32_10 : BitVec 32 := 16#32
  let c0_i32_11 : BitVec 32 := 0#32
  let v7 : BitVec 1 := Scalar.cmpi .eq c16_i32_10 c0_i32_11
  let c1_i32_12 : BitVec 32 := 1#32
  let v8 : BitVec 32 := Scalar.select v7 c1_i32_12 c16_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c2048_i32 : BitVec 32 := 2048#32
  let c0_i32_17 : BitVec 32 := 0#32
  let v18 : BitVec 1 := Scalar.cmpi .sgt arg13 c0_i32_17
  let v19 : BitVec 32 := Scalar.extui v18
  let c0_i32_18 : BitVec 32 := 0#32
  let v20 : BitVec 1 := Scalar.cmpi .slt arg13 c0_i32_18
  let v21 : BitVec 32 := Scalar.extui v20
  let v22 : BitVec 32 := Scalar.subi v19 v21
  let c16_i32_16 : BitVec 32 := 16#32
  let c0_i32_19 : BitVec 32 := 0#32
  let v23 : BitVec 1 := Scalar.cmpi .sgt c16_i32_16 c0_i32_19
  let v24 : BitVec 32 := Scalar.extui v23
  let c0_i32_20 : BitVec 32 := 0#32
  let v25 : BitVec 1 := Scalar.cmpi .slt c16_i32_16 c0_i32_20
  let v26 : BitVec 32 := Scalar.extui v25
  let v27 : BitVec 32 := Scalar.subi v24 v26
  let v28 : BitVec 1 := Scalar.cmpi .ne v22 v27
  let v29 : BitVec 32 := Scalar.remsi arg13 c16_i32_16
  let c0_i32_21 : BitVec 32 := 0#32
  let v30 : BitVec 1 := Scalar.cmpi .ne v29 c0_i32_21
  let v31 : BitVec 1 := Scalar.andi v28 v30
  let v17 : BitVec 32 := Scalar.divsi arg13 c16_i32_16
  let c1_i32_22 : BitVec 32 := 1#32
  let v32 : BitVec 32 := Scalar.subi v17 c1_i32_22
  let v33 : BitVec 32 := Scalar.select v31 v32 v17
  let v34 : BitVec 32 := Scalar.muli c2048_i32 v33
  let v35 : BitVec 32 := Scalar.addi v16 v34
  let v44 : Index := Scalar.indexCast v35
  let c0_28 : Index := 0#32
  ![0, v44.toNat, 0]
def k0_off3 (i : grid0.Coords) : Fin 5 → Nat :=
  let c0_36 : Index := 0#32
  let arg2 : BitVec 32 := BitVec.ofNat 32 (i 2).val
  let c0_i32 : BitVec 32 := 0#32
  let v0 : BitVec 1 := Scalar.cmpi .eq arg2 c0_i32
  let v43 : BitVec 32 := Scalar.extui v0
  let v66 : Index := Scalar.indexCast v43
  let c0_37 : Index := 0#32
  let c0_38 : Index := 0#32
  let c0_39 : Index := 0#32
  ![0, v66.toNat, 0, 0, 0]
def k0_off4 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let c16_i32_10 : BitVec 32 := 16#32
  let c0_i32_11 : BitVec 32 := 0#32
  let v7 : BitVec 1 := Scalar.cmpi .eq c16_i32_10 c0_i32_11
  let c1_i32_12 : BitVec 32 := 1#32
  let v8 : BitVec 32 := Scalar.select v7 c1_i32_12 c16_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c2048_i32 : BitVec 32 := 2048#32
  let c0_i32_17 : BitVec 32 := 0#32
  let v18 : BitVec 1 := Scalar.cmpi .sgt arg13 c0_i32_17
  let v19 : BitVec 32 := Scalar.extui v18
  let c0_i32_18 : BitVec 32 := 0#32
  let v20 : BitVec 1 := Scalar.cmpi .slt arg13 c0_i32_18
  let v21 : BitVec 32 := Scalar.extui v20
  let v22 : BitVec 32 := Scalar.subi v19 v21
  let c16_i32_16 : BitVec 32 := 16#32
  let c0_i32_19 : BitVec 32 := 0#32
  let v23 : BitVec 1 := Scalar.cmpi .sgt c16_i32_16 c0_i32_19
  let v24 : BitVec 32 := Scalar.extui v23
  let c0_i32_20 : BitVec 32 := 0#32
  let v25 : BitVec 1 := Scalar.cmpi .slt c16_i32_16 c0_i32_20
  let v26 : BitVec 32 := Scalar.extui v25
  let v27 : BitVec 32 := Scalar.subi v24 v26
  let v28 : BitVec 1 := Scalar.cmpi .ne v22 v27
  let v29 : BitVec 32 := Scalar.remsi arg13 c16_i32_16
  let c0_i32_21 : BitVec 32 := 0#32
  let v30 : BitVec 1 := Scalar.cmpi .ne v29 c0_i32_21
  let v31 : BitVec 1 := Scalar.andi v28 v30
  let v17 : BitVec 32 := Scalar.divsi arg13 c16_i32_16
  let c1_i32_22 : BitVec 32 := 1#32
  let v32 : BitVec 32 := Scalar.subi v17 c1_i32_22
  let v33 : BitVec 32 := Scalar.select v31 v32 v17
  let v34 : BitVec 32 := Scalar.muli c2048_i32 v33
  let v35 : BitVec 32 := Scalar.addi v16 v34
  let v96 : Index := Scalar.indexCast v35
  let c0_43 : Index := 0#32
  ![v96.toNat, 0]
@[reducible] def k0_t2_loop : Scf.Loop 32 :=
  let c0_i32_2 : BitVec 32 := 0#32
  let c16_i32_3 : BitVec 32 := 16#32
  let v5 : BitVec 32 := Scalar.addi c0_i32_2 c16_i32_3
  let c1_i32_4 : BitVec 32 := 1#32
  ⟨c0_i32_2, v5, c1_i32_4⟩
def k0_off5 (k0_t2 : Fin k0_t2_loop.trips) : Fin 3 → Nat :=
  let c0 : Index := 0#32
  let c0_i32_2 : BitVec 32 := 0#32
  let c1_i32_4 : BitVec 32 := 1#32
  let arg13 : BitVec 32 := Scf.iv c0_i32_2 c1_i32_4 k0_t2
  let c4_i32 : BitVec 32 := 4#32
  let c0_i32_10 : BitVec 32 := 0#32
  let v7 : BitVec 1 := Scalar.cmpi .eq c4_i32 c0_i32_10
  let c1_i32_11 : BitVec 32 := 1#32
  let v8 : BitVec 32 := Scalar.select v7 c1_i32_11 c4_i32
  let v9 : BitVec 32 := Scalar.remsi arg13 v8
  let c0_i32_13 : BitVec 32 := 0#32
  let v11 : BitVec 1 := Scalar.cmpi .slt v9 c0_i32_13
  let c0_i32_14 : BitVec 32 := 0#32
  let v12 : BitVec 1 := Scalar.cmpi .slt v8 c0_i32_14
  let v13 : BitVec 1 := Scalar.xori v11 v12
  let c0_i32_12 : BitVec 32 := 0#32
  let v10 : BitVec 1 := Scalar.cmpi .ne v9 c0_i32_12
  let v14 : BitVec 1 := Scalar.andi v13 v10
  let v15 : BitVec 32 := Scalar.addi v9 v8
  let v16 : BitVec 32 := Scalar.select v14 v15 v9
  let c1536_i32 : BitVec 32 := 1536#32
  let v36 : BitVec 32 := Scalar.addi v16 c1536_i32
  let v42 : Index := Scalar.indexCast v36
  let c0_26 : Index := 0#32
  ![0, v42.toNat, 0]
def k0_off6 (k0_t2 : Fin k0_t2_loop.trips) : Fin 3 → Nat :=
  let c0_27 : Index := 0#32
  let c0_i32_2 : BitVec 32 := 0#32
  let c1_i32_4 : BitVec 32 := 1#32
  let arg13 : BitVec 32 := Scf.iv c0_i32_2 c1_i32_4 k0_t2
  let c4_i32 : BitVec 32 := 4#32
  let c0_i32_10 : BitVec 32 := 0#32
  let v7 : BitVec 1 := Scalar.cmpi .eq c4_i32 c0_i32_10
  let c1_i32_11 : BitVec 32 := 1#32
  let v8 : BitVec 32 := Scalar.select v7 c1_i32_11 c4_i32
  let v9 : BitVec 32 := Scalar.remsi arg13 v8
  let c0_i32_13 : BitVec 32 := 0#32
  let v11 : BitVec 1 := Scalar.cmpi .slt v9 c0_i32_13
  let c0_i32_14 : BitVec 32 := 0#32
  let v12 : BitVec 1 := Scalar.cmpi .slt v8 c0_i32_14
  let v13 : BitVec 1 := Scalar.xori v11 v12
  let c0_i32_12 : BitVec 32 := 0#32
  let v10 : BitVec 1 := Scalar.cmpi .ne v9 c0_i32_12
  let v14 : BitVec 1 := Scalar.andi v13 v10
  let v15 : BitVec 32 := Scalar.addi v9 v8
  let v16 : BitVec 32 := Scalar.select v14 v15 v9
  let c512_i32_24 : BitVec 32 := 512#32
  let c0_i32_16 : BitVec 32 := 0#32
  let v18 : BitVec 1 := Scalar.cmpi .sgt arg13 c0_i32_16
  let v19 : BitVec 32 := Scalar.extui v18
  let c0_i32_17 : BitVec 32 := 0#32
  let v20 : BitVec 1 := Scalar.cmpi .slt arg13 c0_i32_17
  let v21 : BitVec 32 := Scalar.extui v20
  let v22 : BitVec 32 := Scalar.subi v19 v21
  let c4_i32_15 : BitVec 32 := 4#32
  let c0_i32_18 : BitVec 32 := 0#32
  let v23 : BitVec 1 := Scalar.cmpi .sgt c4_i32_15 c0_i32_18
  let v24 : BitVec 32 := Scalar.extui v23
  let c0_i32_19 : BitVec 32 := 0#32
  let v25 : BitVec 1 := Scalar.cmpi .slt c4_i32_15 c0_i32_19
  let v26 : BitVec 32 := Scalar.extui v25
  let v27 : BitVec 32 := Scalar.subi v24 v26
  let v28 : BitVec 1 := Scalar.cmpi .ne v22 v27
  let v29 : BitVec 32 := Scalar.remsi arg13 c4_i32_15
  let c0_i32_20 : BitVec 32 := 0#32
  let v30 : BitVec 1 := Scalar.cmpi .ne v29 c0_i32_20
  let v31 : BitVec 1 := Scalar.andi v28 v30
  let v17 : BitVec 32 := Scalar.divsi arg13 c4_i32_15
  let c1_i32_21 : BitVec 32 := 1#32
  let v32 : BitVec 32 := Scalar.subi v17 c1_i32_21
  let v33 : BitVec 32 := Scalar.select v31 v32 v17
  let c1_i32_22 : BitVec 32 := 1#32
  let v37 : BitVec 32 := Scalar.subi v33 c1_i32_22
  let c0_i32_23 : BitVec 32 := 0#32
  let v38 : BitVec 32 := Scalar.maxsi v37 c0_i32_23
  let v39 : BitVec 32 := Scalar.muli c512_i32_24 v38
  let v40 : BitVec 32 := Scalar.addi v16 v39
  let v45 : Index := Scalar.indexCast v40
  let c0_28 : Index := 0#32
  ![0, v45.toNat, 0]
def k0_off7 (k0_t2 : Fin k0_t2_loop.trips) : Fin 3 → Nat :=
  let c0_33 : Index := 0#32
  let c0_i32_2 : BitVec 32 := 0#32
  let c1_i32_4 : BitVec 32 := 1#32
  let arg13 : BitVec 32 := Scf.iv c0_i32_2 c1_i32_4 k0_t2
  let c4_i32 : BitVec 32 := 4#32
  let c0_i32_10 : BitVec 32 := 0#32
  let v7 : BitVec 1 := Scalar.cmpi .eq c4_i32 c0_i32_10
  let c1_i32_11 : BitVec 32 := 1#32
  let v8 : BitVec 32 := Scalar.select v7 c1_i32_11 c4_i32
  let v9 : BitVec 32 := Scalar.remsi arg13 v8
  let c0_i32_13 : BitVec 32 := 0#32
  let v11 : BitVec 1 := Scalar.cmpi .slt v9 c0_i32_13
  let c0_i32_14 : BitVec 32 := 0#32
  let v12 : BitVec 1 := Scalar.cmpi .slt v8 c0_i32_14
  let v13 : BitVec 1 := Scalar.xori v11 v12
  let c0_i32_12 : BitVec 32 := 0#32
  let v10 : BitVec 1 := Scalar.cmpi .ne v9 c0_i32_12
  let v14 : BitVec 1 := Scalar.andi v13 v10
  let v15 : BitVec 32 := Scalar.addi v9 v8
  let v16 : BitVec 32 := Scalar.select v14 v15 v9
  let c512_i32 : BitVec 32 := 512#32
  let c0_i32_16 : BitVec 32 := 0#32
  let v18 : BitVec 1 := Scalar.cmpi .sgt arg13 c0_i32_16
  let v19 : BitVec 32 := Scalar.extui v18
  let c0_i32_17 : BitVec 32 := 0#32
  let v20 : BitVec 1 := Scalar.cmpi .slt arg13 c0_i32_17
  let v21 : BitVec 32 := Scalar.extui v20
  let v22 : BitVec 32 := Scalar.subi v19 v21
  let c4_i32_15 : BitVec 32 := 4#32
  let c0_i32_18 : BitVec 32 := 0#32
  let v23 : BitVec 1 := Scalar.cmpi .sgt c4_i32_15 c0_i32_18
  let v24 : BitVec 32 := Scalar.extui v23
  let c0_i32_19 : BitVec 32 := 0#32
  let v25 : BitVec 1 := Scalar.cmpi .slt c4_i32_15 c0_i32_19
  let v26 : BitVec 32 := Scalar.extui v25
  let v27 : BitVec 32 := Scalar.subi v24 v26
  let v28 : BitVec 1 := Scalar.cmpi .ne v22 v27
  let v29 : BitVec 32 := Scalar.remsi arg13 c4_i32_15
  let c0_i32_20 : BitVec 32 := 0#32
  let v30 : BitVec 1 := Scalar.cmpi .ne v29 c0_i32_20
  let v31 : BitVec 1 := Scalar.andi v28 v30
  let v17 : BitVec 32 := Scalar.divsi arg13 c4_i32_15
  let c1_i32_21 : BitVec 32 := 1#32
  let v32 : BitVec 32 := Scalar.subi v17 c1_i32_21
  let v33 : BitVec 32 := Scalar.select v31 v32 v17
  let v34 : BitVec 32 := Scalar.muli c512_i32 v33
  let v35 : BitVec 32 := Scalar.addi v16 v34
  let v58 : Index := Scalar.indexCast v35
  let c0_34 : Index := 0#32
  ![0, v58.toNat, 0]
def k0_off8 (i : grid0.Coords) (k0_t2 : Fin k0_t2_loop.trips) : Fin 5 → Nat :=
  let c1 : Index := 1#32
  let c0_i32_2 : BitVec 32 := 0#32
  let c1_i32_4 : BitVec 32 := 1#32
  let arg13 : BitVec 32 := Scf.iv c0_i32_2 c1_i32_4 k0_t2
  let c0_i32_16 : BitVec 32 := 0#32
  let v18 : BitVec 1 := Scalar.cmpi .sgt arg13 c0_i32_16
  let v19 : BitVec 32 := Scalar.extui v18
  let c0_i32_17 : BitVec 32 := 0#32
  let v20 : BitVec 1 := Scalar.cmpi .slt arg13 c0_i32_17
  let v21 : BitVec 32 := Scalar.extui v20
  let v22 : BitVec 32 := Scalar.subi v19 v21
  let c4_i32_15 : BitVec 32 := 4#32
  let c0_i32_18 : BitVec 32 := 0#32
  let v23 : BitVec 1 := Scalar.cmpi .sgt c4_i32_15 c0_i32_18
  let v24 : BitVec 32 := Scalar.extui v23
  let c0_i32_19 : BitVec 32 := 0#32
  let v25 : BitVec 1 := Scalar.cmpi .slt c4_i32_15 c0_i32_19
  let v26 : BitVec 32 := Scalar.extui v25
  let v27 : BitVec 32 := Scalar.subi v24 v26
  let v28 : BitVec 1 := Scalar.cmpi .ne v22 v27
  let v29 : BitVec 32 := Scalar.remsi arg13 c4_i32_15
  let c0_i32_20 : BitVec 32 := 0#32
  let v30 : BitVec 1 := Scalar.cmpi .ne v29 c0_i32_20
  let v31 : BitVec 1 := Scalar.andi v28 v30
  let v17 : BitVec 32 := Scalar.divsi arg13 c4_i32_15
  let c1_i32_21 : BitVec 32 := 1#32
  let v32 : BitVec 32 := Scalar.subi v17 c1_i32_21
  let v33 : BitVec 32 := Scalar.select v31 v32 v17
  let c0_i32_25 : BitVec 32 := 0#32
  let v41 : BitVec 1 := Scalar.cmpi .eq v33 c0_i32_25
  let arg2 : BitVec 32 := BitVec.ofNat 32 (i 2).val
  let c0_i32 : BitVec 32 := 0#32
  let v0 : BitVec 1 := Scalar.cmpi .eq arg2 c0_i32
  let v56 : BitVec 1 := Scalar.andi v41 v0
  let v57 : BitVec 32 := Scalar.extui v56
  let v80 : Index := Scalar.indexCast v57
  let c0_42 : Index := 0#32
  let c0_43 : Index := 0#32
  let c0_44 : Index := 0#32
  ![1, v80.toNat, 0, 0, 0]
def k0_off9 (k0_t2 : Fin k0_t2_loop.trips) : Fin 2 → Nat :=
  let c0_i32_2 : BitVec 32 := 0#32
  let c1_i32_4 : BitVec 32 := 1#32
  let arg13 : BitVec 32 := Scf.iv c0_i32_2 c1_i32_4 k0_t2
  let c4_i32 : BitVec 32 := 4#32
  let c0_i32_10 : BitVec 32 := 0#32
  let v7 : BitVec 1 := Scalar.cmpi .eq c4_i32 c0_i32_10
  let c1_i32_11 : BitVec 32 := 1#32
  let v8 : BitVec 32 := Scalar.select v7 c1_i32_11 c4_i32
  let v9 : BitVec 32 := Scalar.remsi arg13 v8
  let c0_i32_13 : BitVec 32 := 0#32
  let v11 : BitVec 1 := Scalar.cmpi .slt v9 c0_i32_13
  let c0_i32_14 : BitVec 32 := 0#32
  let v12 : BitVec 1 := Scalar.cmpi .slt v8 c0_i32_14
  let v13 : BitVec 1 := Scalar.xori v11 v12
  let c0_i32_12 : BitVec 32 := 0#32
  let v10 : BitVec 1 := Scalar.cmpi .ne v9 c0_i32_12
  let v14 : BitVec 1 := Scalar.andi v13 v10
  let v15 : BitVec 32 := Scalar.addi v9 v8
  let v16 : BitVec 32 := Scalar.select v14 v15 v9
  let c512_i32 : BitVec 32 := 512#32
  let c0_i32_16 : BitVec 32 := 0#32
  let v18 : BitVec 1 := Scalar.cmpi .sgt arg13 c0_i32_16
  let v19 : BitVec 32 := Scalar.extui v18
  let c0_i32_17 : BitVec 32 := 0#32
  let v20 : BitVec 1 := Scalar.cmpi .slt arg13 c0_i32_17
  let v21 : BitVec 32 := Scalar.extui v20
  let v22 : BitVec 32 := Scalar.subi v19 v21
  let c4_i32_15 : BitVec 32 := 4#32
  let c0_i32_18 : BitVec 32 := 0#32
  let v23 : BitVec 1 := Scalar.cmpi .sgt c4_i32_15 c0_i32_18
  let v24 : BitVec 32 := Scalar.extui v23
  let c0_i32_19 : BitVec 32 := 0#32
  let v25 : BitVec 1 := Scalar.cmpi .slt c4_i32_15 c0_i32_19
  let v26 : BitVec 32 := Scalar.extui v25
  let v27 : BitVec 32 := Scalar.subi v24 v26
  let v28 : BitVec 1 := Scalar.cmpi .ne v22 v27
  let v29 : BitVec 32 := Scalar.remsi arg13 c4_i32_15
  let c0_i32_20 : BitVec 32 := 0#32
  let v30 : BitVec 1 := Scalar.cmpi .ne v29 c0_i32_20
  let v31 : BitVec 1 := Scalar.andi v28 v30
  let v17 : BitVec 32 := Scalar.divsi arg13 c4_i32_15
  let c1_i32_21 : BitVec 32 := 1#32
  let v32 : BitVec 32 := Scalar.subi v17 c1_i32_21
  let v33 : BitVec 32 := Scalar.select v31 v32 v17
  let v34 : BitVec 32 := Scalar.muli c512_i32 v33
  let v35 : BitVec 32 := Scalar.addi v16 v34
  let v110 : Index := Scalar.indexCast v35
  let c0_48 : Index := 0#32
  ![v110.toNat, 0]
@[reducible] def k0_t3_loop : Scf.Loop 32 :=
  let c0_i32_6 : BitVec 32 := 0#32
  let c16_i32_7 : BitVec 32 := 16#32
  let v6 : BitVec 32 := Scalar.addi c0_i32_6 c16_i32_7
  let c1_i32_8 : BitVec 32 := 1#32
  ⟨c0_i32_6, v6, c1_i32_8⟩
def k0_off10 (k0_t3 : Fin k0_t3_loop.trips) : Fin 3 → Nat :=
  let c0 : Index := 0#32
  let c0_i32_6 : BitVec 32 := 0#32
  let c1_i32_8 : BitVec 32 := 1#32
  let arg13 : BitVec 32 := Scf.iv c0_i32_6 c1_i32_8 k0_t3
  let c1_i32_10 : BitVec 32 := 1#32
  let c0_i32_11 : BitVec 32 := 0#32
  let v7 : BitVec 1 := Scalar.cmpi .eq c1_i32_10 c0_i32_11
  let c1_i32_12 : BitVec 32 := 1#32
  let v8 : BitVec 32 := Scalar.select v7 c1_i32_12 c1_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c1920_i32 : BitVec 32 := 1920#32
  let v36 : BitVec 32 := Scalar.addi v16 c1920_i32
  let v42 : Index := Scalar.indexCast v36
  let c0_27 : Index := 0#32
  ![0, v42.toNat, 0]
def k0_off11 (k0_t3 : Fin k0_t3_loop.trips) : Fin 3 → Nat :=
  let c0_28 : Index := 0#32
  let c0_i32_6 : BitVec 32 := 0#32
  let c1_i32_8 : BitVec 32 := 1#32
  let arg13 : BitVec 32 := Scf.iv c0_i32_6 c1_i32_8 k0_t3
  let c1_i32_10 : BitVec 32 := 1#32
  let c0_i32_11 : BitVec 32 := 0#32
  let v7 : BitVec 1 := Scalar.cmpi .eq c1_i32_10 c0_i32_11
  let c1_i32_12 : BitVec 32 := 1#32
  let v8 : BitVec 32 := Scalar.select v7 c1_i32_12 c1_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c128_i32_25 : BitVec 32 := 128#32
  let c0_i32_17 : BitVec 32 := 0#32
  let v18 : BitVec 1 := Scalar.cmpi .sgt arg13 c0_i32_17
  let v19 : BitVec 32 := Scalar.extui v18
  let c0_i32_18 : BitVec 32 := 0#32
  let v20 : BitVec 1 := Scalar.cmpi .slt arg13 c0_i32_18
  let v21 : BitVec 32 := Scalar.extui v20
  let v22 : BitVec 32 := Scalar.subi v19 v21
  let c1_i32_16 : BitVec 32 := 1#32
  let c0_i32_19 : BitVec 32 := 0#32
  let v23 : BitVec 1 := Scalar.cmpi .sgt c1_i32_16 c0_i32_19
  let v24 : BitVec 32 := Scalar.extui v23
  let c0_i32_20 : BitVec 32 := 0#32
  let v25 : BitVec 1 := Scalar.cmpi .slt c1_i32_16 c0_i32_20
  let v26 : BitVec 32 := Scalar.extui v25
  let v27 : BitVec 32 := Scalar.subi v24 v26
  let v28 : BitVec 1 := Scalar.cmpi .ne v22 v27
  let v29 : BitVec 32 := Scalar.remsi arg13 c1_i32_16
  let c0_i32_21 : BitVec 32 := 0#32
  let v30 : BitVec 1 := Scalar.cmpi .ne v29 c0_i32_21
  let v31 : BitVec 1 := Scalar.andi v28 v30
  let v17 : BitVec 32 := Scalar.divsi arg13 c1_i32_16
  let c1_i32_22 : BitVec 32 := 1#32
  let v32 : BitVec 32 := Scalar.subi v17 c1_i32_22
  let v33 : BitVec 32 := Scalar.select v31 v32 v17
  let c1_i32_23 : BitVec 32 := 1#32
  let v37 : BitVec 32 := Scalar.subi v33 c1_i32_23
  let c0_i32_24 : BitVec 32 := 0#32
  let v38 : BitVec 32 := Scalar.maxsi v37 c0_i32_24
  let v39 : BitVec 32 := Scalar.muli c128_i32_25 v38
  let v40 : BitVec 32 := Scalar.addi v16 v39
  let v45 : Index := Scalar.indexCast v40
  let c0_29 : Index := 0#32
  ![0, v45.toNat, 0]
def k0_off12 (k0_t3 : Fin k0_t3_loop.trips) : Fin 3 → Nat :=
  let c0_34 : Index := 0#32
  let c0_i32_6 : BitVec 32 := 0#32
  let c1_i32_8 : BitVec 32 := 1#32
  let arg13 : BitVec 32 := Scf.iv c0_i32_6 c1_i32_8 k0_t3
  let c1_i32_10 : BitVec 32 := 1#32
  let c0_i32_11 : BitVec 32 := 0#32
  let v7 : BitVec 1 := Scalar.cmpi .eq c1_i32_10 c0_i32_11
  let c1_i32_12 : BitVec 32 := 1#32
  let v8 : BitVec 32 := Scalar.select v7 c1_i32_12 c1_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c128_i32 : BitVec 32 := 128#32
  let c0_i32_17 : BitVec 32 := 0#32
  let v18 : BitVec 1 := Scalar.cmpi .sgt arg13 c0_i32_17
  let v19 : BitVec 32 := Scalar.extui v18
  let c0_i32_18 : BitVec 32 := 0#32
  let v20 : BitVec 1 := Scalar.cmpi .slt arg13 c0_i32_18
  let v21 : BitVec 32 := Scalar.extui v20
  let v22 : BitVec 32 := Scalar.subi v19 v21
  let c1_i32_16 : BitVec 32 := 1#32
  let c0_i32_19 : BitVec 32 := 0#32
  let v23 : BitVec 1 := Scalar.cmpi .sgt c1_i32_16 c0_i32_19
  let v24 : BitVec 32 := Scalar.extui v23
  let c0_i32_20 : BitVec 32 := 0#32
  let v25 : BitVec 1 := Scalar.cmpi .slt c1_i32_16 c0_i32_20
  let v26 : BitVec 32 := Scalar.extui v25
  let v27 : BitVec 32 := Scalar.subi v24 v26
  let v28 : BitVec 1 := Scalar.cmpi .ne v22 v27
  let v29 : BitVec 32 := Scalar.remsi arg13 c1_i32_16
  let c0_i32_21 : BitVec 32 := 0#32
  let v30 : BitVec 1 := Scalar.cmpi .ne v29 c0_i32_21
  let v31 : BitVec 1 := Scalar.andi v28 v30
  let v17 : BitVec 32 := Scalar.divsi arg13 c1_i32_16
  let c1_i32_22 : BitVec 32 := 1#32
  let v32 : BitVec 32 := Scalar.subi v17 c1_i32_22
  let v33 : BitVec 32 := Scalar.select v31 v32 v17
  let v34 : BitVec 32 := Scalar.muli c128_i32 v33
  let v35 : BitVec 32 := Scalar.addi v16 v34
  let v58 : Index := Scalar.indexCast v35
  let c0_35 : Index := 0#32
  ![0, v58.toNat, 0]
def k0_off13 (i : grid0.Coords) (k0_t3 : Fin k0_t3_loop.trips) : Fin 5 → Nat :=
  let c2 : Index := 2#32
  let c0_i32_6 : BitVec 32 := 0#32
  let c1_i32_8 : BitVec 32 := 1#32
  let arg13 : BitVec 32 := Scf.iv c0_i32_6 c1_i32_8 k0_t3
  let c0_i32_17 : BitVec 32 := 0#32
  let v18 : BitVec 1 := Scalar.cmpi .sgt arg13 c0_i32_17
  let v19 : BitVec 32 := Scalar.extui v18
  let c0_i32_18 : BitVec 32 := 0#32
  let v20 : BitVec 1 := Scalar.cmpi .slt arg13 c0_i32_18
  let v21 : BitVec 32 := Scalar.extui v20
  let v22 : BitVec 32 := Scalar.subi v19 v21
  let c1_i32_16 : BitVec 32 := 1#32
  let c0_i32_19 : BitVec 32 := 0#32
  let v23 : BitVec 1 := Scalar.cmpi .sgt c1_i32_16 c0_i32_19
  let v24 : BitVec 32 := Scalar.extui v23
  let c0_i32_20 : BitVec 32 := 0#32
  let v25 : BitVec 1 := Scalar.cmpi .slt c1_i32_16 c0_i32_20
  let v26 : BitVec 32 := Scalar.extui v25
  let v27 : BitVec 32 := Scalar.subi v24 v26
  let v28 : BitVec 1 := Scalar.cmpi .ne v22 v27
  let v29 : BitVec 32 := Scalar.remsi arg13 c1_i32_16
  let c0_i32_21 : BitVec 32 := 0#32
  let v30 : BitVec 1 := Scalar.cmpi .ne v29 c0_i32_21
  let v31 : BitVec 1 := Scalar.andi v28 v30
  let v17 : BitVec 32 := Scalar.divsi arg13 c1_i32_16
  let c1_i32_22 : BitVec 32 := 1#32
  let v32 : BitVec 32 := Scalar.subi v17 c1_i32_22
  let v33 : BitVec 32 := Scalar.select v31 v32 v17
  let c0_i32_26 : BitVec 32 := 0#32
  let v41 : BitVec 1 := Scalar.cmpi .eq v33 c0_i32_26
  let arg2 : BitVec 32 := BitVec.ofNat 32 (i 2).val
  let c0_i32 : BitVec 32 := 0#32
  let v0 : BitVec 1 := Scalar.cmpi .eq arg2 c0_i32
  let v56 : BitVec 1 := Scalar.andi v41 v0
  let v57 : BitVec 32 := Scalar.extui v56
  let v80 : Index := Scalar.indexCast v57
  let c0_43 : Index := 0#32
  let c0_44 : Index := 0#32
  let c0_45 : Index := 0#32
  ![2, v80.toNat, 0, 0, 0]
def k0_off14 (k0_t3 : Fin k0_t3_loop.trips) : Fin 2 → Nat :=
  let c0_i32_6 : BitVec 32 := 0#32
  let c1_i32_8 : BitVec 32 := 1#32
  let arg13 : BitVec 32 := Scf.iv c0_i32_6 c1_i32_8 k0_t3
  let c1_i32_10 : BitVec 32 := 1#32
  let c0_i32_11 : BitVec 32 := 0#32
  let v7 : BitVec 1 := Scalar.cmpi .eq c1_i32_10 c0_i32_11
  let c1_i32_12 : BitVec 32 := 1#32
  let v8 : BitVec 32 := Scalar.select v7 c1_i32_12 c1_i32_10
  let v9 : BitVec 32 := Scalar.remsi arg13 v8
  let c0_i32_14 : BitVec 32 := 0#32
  let v11 : BitVec 1 := Scalar.cmpi .slt v9 c0_i32_14
  let c0_i32_15 : BitVec 32 := 0#32
  let v12 : BitVec 1 := Scalar.cmpi .slt v8 c0_i32_15
  let v13 : BitVec 1 := Scalar.xori v11 v12
  let c0_i32_13 : BitVec 32 := 0#32
  let v10 : BitVec 1 := Scalar.cmpi .ne v9 c0_i32_13
  let v14 : BitVec 1 := Scalar.andi v13 v10
  let v15 : BitVec 32 := Scalar.addi v9 v8
  let v16 : BitVec 32 := Scalar.select v14 v15 v9
  let c128_i32 : BitVec 32 := 128#32
  let c0_i32_17 : BitVec 32 := 0#32
  let v18 : BitVec 1 := Scalar.cmpi .sgt arg13 c0_i32_17
  let v19 : BitVec 32 := Scalar.extui v18
  let c0_i32_18 : BitVec 32 := 0#32
  let v20 : BitVec 1 := Scalar.cmpi .slt arg13 c0_i32_18
  let v21 : BitVec 32 := Scalar.extui v20
  let v22 : BitVec 32 := Scalar.subi v19 v21
  let c1_i32_16 : BitVec 32 := 1#32
  let c0_i32_19 : BitVec 32 := 0#32
  let v23 : BitVec 1 := Scalar.cmpi .sgt c1_i32_16 c0_i32_19
  let v24 : BitVec 32 := Scalar.extui v23
  let c0_i32_20 : BitVec 32 := 0#32
  let v25 : BitVec 1 := Scalar.cmpi .slt c1_i32_16 c0_i32_20
  let v26 : BitVec 32 := Scalar.extui v25
  let v27 : BitVec 32 := Scalar.subi v24 v26
  let v28 : BitVec 1 := Scalar.cmpi .ne v22 v27
  let v29 : BitVec 32 := Scalar.remsi arg13 c1_i32_16
  let c0_i32_21 : BitVec 32 := 0#32
  let v30 : BitVec 1 := Scalar.cmpi .ne v29 c0_i32_21
  let v31 : BitVec 1 := Scalar.andi v28 v30
  let v17 : BitVec 32 := Scalar.divsi arg13 c1_i32_16
  let c1_i32_22 : BitVec 32 := 1#32
  let v32 : BitVec 32 := Scalar.subi v17 c1_i32_22
  let v33 : BitVec 32 := Scalar.select v31 v32 v17
  let v34 : BitVec 32 := Scalar.muli c128_i32 v33
  let v35 : BitVec 32 := Scalar.addi v16 v34
  let v110 : Index := Scalar.indexCast v35
  let c0_49 : Index := 0#32
  ![v110.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c15_i32 : BitVec 32 := 15#32
  let v2 : BitVec 32 := Scalar.addi c15_i32 arg1
  let c0_i32_0 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c18_i32 : BitVec 32 := 18#32
  let v2 : BitVec 32 := Scalar.addi c18_i32 arg1
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  ![arg0.toNat, arg2.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S3x2x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "qscale" => some (((8 * (Real.log 2))⁻¹ : ℝ) : EReal)
  | _ => none
-- ==== ReferenceIdeal.lean ====
abbrev S4x8192x3840 : Shape := ⟨3, ![4, 8192, 3840]⟩
abbrev S12x32 : Shape := ⟨2, ![12, 32]⟩
abbrev S4x8192x384 : Shape := ⟨3, ![4, 8192, 384]⟩
abbrev S4x8192x6x64 : Shape := ⟨4, ![4, 8192, 6, 64]⟩
abbrev S6x32 : Shape := ⟨2, ![6, 32]⟩
abbrev S4x8192x1x6x64 : Shape := ⟨5, ![4, 8192, 1, 6, 64]⟩
abbrev S4x1x8192x6x64 : Shape := ⟨5, ![4, 1, 8192, 6, 64]⟩
abbrev S4x1x64x128x6x64 : Shape := ⟨6, ![4, 1, 64, 128, 6, 64]⟩
abbrev S4x1x63x128x6x64 : Shape := ⟨6, ![4, 1, 63, 128, 6, 64]⟩
abbrev S_ : Shape := ⟨0, ![]⟩
abbrev S4x1x64x256x6x64 : Shape := ⟨6, ![4, 1, 64, 256, 6, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S128x256x1 : Shape := ⟨3, ![128, 256, 1]⟩
abbrev S6x128x256 : Shape := ⟨3, ![6, 128, 256]⟩
abbrev S4x1x64x6x128x256 : Shape := ⟨6, ![4, 1, 64, 6, 128, 256]⟩
abbrev S1x1x1x6x128x256 : Shape := ⟨6, ![1, 1, 1, 6, 128, 256]⟩
abbrev S64x1x128x256 : Shape := ⟨4, ![64, 1, 128, 256]⟩
abbrev S4x1x64x6x128 : Shape := ⟨5, ![4, 1, 64, 6, 128]⟩
abbrev S4x1x64x6x128x1 : Shape := ⟨6, ![4, 1, 64, 6, 128, 1]⟩
abbrev S4x1x64x6x64x128 : Shape := ⟨6, ![4, 1, 64, 6, 64, 128]⟩
abbrev S4x1x64x128x6 : Shape := ⟨5, ![4, 1, 64, 128, 6]⟩
abbrev S4x1x8192x6 : Shape := ⟨4, ![4, 1, 8192, 6]⟩
abbrev S4x8192x1x6 : Shape := ⟨4, ![4, 8192, 1, 6]⟩
abbrev S4x8192x6 : Shape := ⟨3, ![4, 8192, 6]⟩
abbrev S4x2048x4x6x64 : Shape := ⟨5, ![4, 2048, 4, 6, 64]⟩
abbrev S4x4x2048x6x64 : Shape := ⟨5, ![4, 4, 2048, 6, 64]⟩
abbrev S4x4x16x128x6x64 : Shape := ⟨6, ![4, 4, 16, 128, 6, 64]⟩
abbrev S4x4x15x128x6x64 : Shape := ⟨6, ![4, 4, 15, 128, 6, 64]⟩
abbrev S4x4x16x256x6x64 : Shape := ⟨6, ![4, 4, 16, 256, 6, 64]⟩
abbrev S16 : Shape := ⟨1, ![16]⟩
abbrev S16x1x1 : Shape := ⟨3, ![16, 1, 1]⟩
abbrev S16x1x256 : Shape := ⟨3, ![16, 1, 256]⟩
abbrev S16x128x256 : Shape := ⟨3, ![16, 128, 256]⟩
abbrev S4x4x16x6x128x256 : Shape := ⟨6, ![4, 4, 16, 6, 128, 256]⟩
abbrev S16x1x128x256 : Shape := ⟨4, ![16, 1, 128, 256]⟩
abbrev S4x4x16x6x128 : Shape := ⟨5, ![4, 4, 16, 6, 128]⟩
abbrev S4x4x16x6x128x1 : Shape := ⟨6, ![4, 4, 16, 6, 128, 1]⟩
abbrev S4x4x16x6x64x128 : Shape := ⟨6, ![4, 4, 16, 6, 64, 128]⟩
abbrev S4x4x16x128x6 : Shape := ⟨5, ![4, 4, 16, 128, 6]⟩
abbrev S4x4x2048x6 : Shape := ⟨4, ![4, 4, 2048, 6]⟩
abbrev S4x2048x4x6 : Shape := ⟨4, ![4, 2048, 4, 6]⟩
abbrev S4x512x16x6x64 : Shape := ⟨5, ![4, 512, 16, 6, 64]⟩
abbrev S4x16x512x6x64 : Shape := ⟨5, ![4, 16, 512, 6, 64]⟩
abbrev S4x16x4x128x6x64 : Shape := ⟨6, ![4, 16, 4, 128, 6, 64]⟩
abbrev S4x16x3x128x6x64 : Shape := ⟨6, ![4, 16, 3, 128, 6, 64]⟩
abbrev S4x16x4x256x6x64 : Shape := ⟨6, ![4, 16, 4, 256, 6, 64]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S4x16x4x6x128x256 : Shape := ⟨6, ![4, 16, 4, 6, 128, 256]⟩
abbrev S4x1x128x256 : Shape := ⟨4, ![4, 1, 128, 256]⟩
abbrev S4x16x4x6x128 : Shape := ⟨5, ![4, 16, 4, 6, 128]⟩
abbrev S4x16x4x6x128x1 : Shape := ⟨6, ![4, 16, 4, 6, 128, 1]⟩
abbrev S4x16x4x6x64x128 : Shape := ⟨6, ![4, 16, 4, 6, 64, 128]⟩
abbrev S4x16x4x128x6 : Shape := ⟨5, ![4, 16, 4, 128, 6]⟩
abbrev S4x16x512x6 : Shape := ⟨4, ![4, 16, 512, 6]⟩
abbrev S4x512x16x6 : Shape := ⟨4, ![4, 512, 16, 6]⟩
abbrev S1x4x8192x6 : Shape := ⟨4, ![1, 4, 8192, 6]⟩
abbrev S3x4x8192x6 : Shape := ⟨4, ![3, 4, 8192, 6]⟩
abbrev S1x4x8192x6x64 : Shape := ⟨5, ![1, 4, 8192, 6, 64]⟩
abbrev S3x4x8192x6x64 : Shape := ⟨5, ![3, 4, 8192, 6, 64]⟩

abbrev nBuf : Space → Nat
  | .hbm => 417
  | .vmem => 0
  | .smem => 0
  | _ => 0

abbrev hbmTy0_0 (i : Nat) : BufTy := match i % 128 with
  | 0 => ⟨S4x8192x3840, .f32⟩
  | 1 => ⟨S12x32, .f32⟩
  | 2 => ⟨S4x8192x384, .f32⟩
  | 3 => ⟨S4x8192x6x64, .f32⟩
  | 4 => ⟨S4x8192x384, .f32⟩
  | 5 => ⟨S4x8192x6x64, .f32⟩
  | 6 => ⟨S4x8192x384, .f32⟩
  | 7 => ⟨S4x8192x6x64, .f32⟩
  | 8 => ⟨S6x32, .f32⟩
  | 9 => ⟨S4x8192x1x6x64, .f32⟩
  | 10 => ⟨S4x1x8192x6x64, .f32⟩
  | 11 => ⟨S4x1x64x128x6x64, .f32⟩
  | 12 => ⟨S4x8192x1x6x64, .f32⟩
  | 13 => ⟨S4x1x8192x6x64, .f32⟩
  | 14 => ⟨S4x1x64x128x6x64, .f32⟩
  | 15 => ⟨S4x1x63x128x6x64, .f32⟩
  | 16 => ⟨S_, .i32⟩
  | 17 => ⟨S_, .f32⟩
  | 18 => ⟨S4x1x64x128x6x64, .f32⟩
  | 19 => ⟨S4x1x64x256x6x64, .f32⟩
  | 20 => ⟨S4x8192x1x6x64, .f32⟩
  | 21 => ⟨S4x1x8192x6x64, .f32⟩
  | 22 => ⟨S4x1x64x128x6x64, .f32⟩
  | 23 => ⟨S4x1x63x128x6x64, .f32⟩
  | 24 => ⟨S_, .i32⟩
  | 25 => ⟨S_, .f32⟩
  | 26 => ⟨S4x1x64x128x6x64, .f32⟩
  | 27 => ⟨S4x1x64x256x6x64, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S64, .i32⟩
  | 46 => ⟨S64x1x1, .i32⟩
  | 47 => ⟨S1x128x256, .i1⟩
  | 48 => ⟨S_, .i32⟩
  | 49 => ⟨S64x1x1, .i32⟩
  | 50 => ⟨S64x1x1, .i1⟩
  | 51 => ⟨S1x1x256, .i32⟩
  | 52 => ⟨S_, .i32⟩
  | 53 => ⟨S1x1x256, .i32⟩
  | 54 => ⟨S1x1x256, .i1⟩
  | 55 => ⟨S64x1x256, .i1⟩
  | 56 => ⟨S64x1x256, .i1⟩
  | 57 => ⟨S64x1x256, .i1⟩
  | 58 => ⟨S64x128x256, .i1⟩
  | 59 => ⟨S64x128x256, .i1⟩
  | 60 => ⟨S64x128x256, .i1⟩
  | 61 => ⟨S_, .i32⟩
  | 62 => ⟨S128x256, .i32⟩
  | 63 => ⟨S128x256, .i32⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S128x256, .f32⟩
  | 71 => ⟨S_, .f32⟩
  | 72 => ⟨S128x256, .f32⟩
  | 73 => ⟨S128x256, .f32⟩
  | 74 => ⟨S128x256, .f32⟩
  | 75 => ⟨S_, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S128x256, .i32⟩
  | 82 => ⟨S_, .i32⟩
  | 83 => ⟨S128x256, .i32⟩
  | 84 => ⟨S128x256, .i32⟩
  | 85 => ⟨S_, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S128x256, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i32⟩
  | 98 => ⟨S128x256, .i32⟩
  | 99 => ⟨S128x256x1, .i32⟩
  | 100 => ⟨S6x128x256, .f32⟩
  | 101 => ⟨S4x1x64x6x128x256, .f32⟩
  | 102 => ⟨S_, .f32⟩
  | 103 => ⟨S4x1x64x6x128x256, .f32⟩
  | 104 => ⟨S4x1x64x6x128x256, .f32⟩
  | 105 => ⟨S1x1x1x6x128x256, .f32⟩
  | 106 => ⟨S4x1x64x6x128x256, .f32⟩
  | 107 => ⟨S4x1x64x6x128x256, .f32⟩
  | 108 => ⟨S64x1x128x256, .i1⟩
  | 109 => ⟨S_, .f32⟩
  | 110 => ⟨S_, .f32⟩
  | 111 => ⟨S4x1x64x6x128x256, .i1⟩
  | 112 => ⟨S4x1x64x6x128x256, .f32⟩
  | 113 => ⟨S4x1x64x6x128x256, .f32⟩
  | 114 => ⟨S_, .f32⟩
  | 115 => ⟨S4x1x64x6x128, .f32⟩
  | 116 => ⟨S4x1x64x6x128x1, .f32⟩
  | 117 => ⟨S4x1x64x6x128x256, .f32⟩
  | 118 => ⟨S4x1x64x6x128x256, .f32⟩
  | 119 => ⟨S4x1x64x6x128x256, .f32⟩
  | 120 => ⟨S_, .f32⟩
  | 121 => ⟨S4x1x64x6x128, .f32⟩
  | 122 => ⟨S4x1x64x6x128x1, .f32⟩
  | 123 => ⟨S4x1x64x6x128x256, .f32⟩
  | 124 => ⟨S4x1x64x6x128x256, .f32⟩
  | 125 => ⟨S4x1x64x6x64x128, .f32⟩
  | 126 => ⟨S4x1x64x128x6x64, .f32⟩
  | 127 => ⟨S4x1x64x6x128x1, .f32⟩
  | _ => ⟨S4x8192x3840, .f32⟩

abbrev hbmTy0_1 (i : Nat) : BufTy := match i % 128 with
  | 0 => ⟨S4x1x64x6x128x1, .f32⟩
  | 1 => ⟨S4x1x64x6x128, .f32⟩
  | 2 => ⟨S4x1x64x128x6, .f32⟩
  | 3 => ⟨S4x1x8192x6x64, .f32⟩
  | 4 => ⟨S4x8192x1x6x64, .f32⟩
  | 5 => ⟨S4x8192x6x64, .f32⟩
  | 6 => ⟨S4x1x8192x6, .f32⟩
  | 7 => ⟨S4x8192x1x6, .f32⟩
  | 8 => ⟨S4x8192x6, .f32⟩
  | 9 => ⟨S4x2048x4x6x64, .f32⟩
  | 10 => ⟨S4x4x2048x6x64, .f32⟩
  | 11 => ⟨S4x4x16x128x6x64, .f32⟩
  | 12 => ⟨S4x2048x4x6x64, .f32⟩
  | 13 => ⟨S4x4x2048x6x64, .f32⟩
  | 14 => ⟨S4x4x16x128x6x64, .f32⟩
  | 15 => ⟨S4x4x15x128x6x64, .f32⟩
  | 16 => ⟨S_, .i32⟩
  | 17 => ⟨S_, .f32⟩
  | 18 => ⟨S4x4x16x128x6x64, .f32⟩
  | 19 => ⟨S4x4x16x256x6x64, .f32⟩
  | 20 => ⟨S4x2048x4x6x64, .f32⟩
  | 21 => ⟨S4x4x2048x6x64, .f32⟩
  | 22 => ⟨S4x4x16x128x6x64, .f32⟩
  | 23 => ⟨S4x4x15x128x6x64, .f32⟩
  | 24 => ⟨S_, .i32⟩
  | 25 => ⟨S_, .f32⟩
  | 26 => ⟨S4x4x16x128x6x64, .f32⟩
  | 27 => ⟨S4x4x16x256x6x64, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S16, .i32⟩
  | 46 => ⟨S16x1x1, .i32⟩
  | 47 => ⟨S1x128x256, .i1⟩
  | 48 => ⟨S_, .i32⟩
  | 49 => ⟨S16x1x1, .i32⟩
  | 50 => ⟨S16x1x1, .i1⟩
  | 51 => ⟨S1x1x256, .i32⟩
  | 52 => ⟨S_, .i32⟩
  | 53 => ⟨S1x1x256, .i32⟩
  | 54 => ⟨S1x1x256, .i1⟩
  | 55 => ⟨S16x1x256, .i1⟩
  | 56 => ⟨S16x1x256, .i1⟩
  | 57 => ⟨S16x1x256, .i1⟩
  | 58 => ⟨S16x128x256, .i1⟩
  | 59 => ⟨S16x128x256, .i1⟩
  | 60 => ⟨S16x128x256, .i1⟩
  | 61 => ⟨S_, .i32⟩
  | 62 => ⟨S128x256, .i32⟩
  | 63 => ⟨S128x256, .i32⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S128x256, .f32⟩
  | 71 => ⟨S_, .f32⟩
  | 72 => ⟨S128x256, .f32⟩
  | 73 => ⟨S128x256, .f32⟩
  | 74 => ⟨S128x256, .f32⟩
  | 75 => ⟨S_, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S128x256, .i32⟩
  | 82 => ⟨S_, .i32⟩
  | 83 => ⟨S128x256, .i32⟩
  | 84 => ⟨S128x256, .i32⟩
  | 85 => ⟨S_, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S128x256, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i32⟩
  | 98 => ⟨S128x256, .i32⟩
  | 99 => ⟨S128x256x1, .i32⟩
  | 100 => ⟨S6x128x256, .f32⟩
  | 101 => ⟨S4x4x16x6x128x256, .f32⟩
  | 102 => ⟨S_, .f32⟩
  | 103 => ⟨S4x4x16x6x128x256, .f32⟩
  | 104 => ⟨S4x4x16x6x128x256, .f32⟩
  | 105 => ⟨S1x1x1x6x128x256, .f32⟩
  | 106 => ⟨S4x4x16x6x128x256, .f32⟩
  | 107 => ⟨S4x4x16x6x128x256, .f32⟩
  | 108 => ⟨S16x1x128x256, .i1⟩
  | 109 => ⟨S_, .f32⟩
  | 110 => ⟨S_, .f32⟩
  | 111 => ⟨S4x4x16x6x128x256, .i1⟩
  | 112 => ⟨S4x4x16x6x128x256, .f32⟩
  | 113 => ⟨S4x4x16x6x128x256, .f32⟩
  | 114 => ⟨S_, .f32⟩
  | 115 => ⟨S4x4x16x6x128, .f32⟩
  | 116 => ⟨S4x4x16x6x128x1, .f32⟩
  | 117 => ⟨S4x4x16x6x128x256, .f32⟩
  | 118 => ⟨S4x4x16x6x128x256, .f32⟩
  | 119 => ⟨S4x4x16x6x128x256, .f32⟩
  | 120 => ⟨S_, .f32⟩
  | 121 => ⟨S4x4x16x6x128, .f32⟩
  | 122 => ⟨S4x4x16x6x128x1, .f32⟩
  | 123 => ⟨S4x4x16x6x128x256, .f32⟩
  | 124 => ⟨S4x4x16x6x128x256, .f32⟩
  | 125 => ⟨S4x4x16x6x64x128, .f32⟩
  | 126 => ⟨S4x4x16x128x6x64, .f32⟩
  | 127 => ⟨S4x4x16x6x128x1, .f32⟩
  | _ => ⟨S4x8192x3840, .f32⟩

abbrev hbmTy0_2 (i : Nat) : BufTy := match i % 128 with
  | 0 => ⟨S4x4x16x6x128x1, .f32⟩
  | 1 => ⟨S4x4x16x6x128, .f32⟩
  | 2 => ⟨S4x4x16x128x6, .f32⟩
  | 3 => ⟨S4x4x2048x6x64, .f32⟩
  | 4 => ⟨S4x2048x4x6x64, .f32⟩
  | 5 => ⟨S4x8192x6x64, .f32⟩
  | 6 => ⟨S4x4x2048x6, .f32⟩
  | 7 => ⟨S4x2048x4x6, .f32⟩
  | 8 => ⟨S4x8192x6, .f32⟩
  | 9 => ⟨S4x512x16x6x64, .f32⟩
  | 10 => ⟨S4x16x512x6x64, .f32⟩
  | 11 => ⟨S4x16x4x128x6x64, .f32⟩
  | 12 => ⟨S4x512x16x6x64, .f32⟩
  | 13 => ⟨S4x16x512x6x64, .f32⟩
  | 14 => ⟨S4x16x4x128x6x64, .f32⟩
  | 15 => ⟨S4x16x3x128x6x64, .f32⟩
  | 16 => ⟨S_, .i32⟩
  | 17 => ⟨S_, .f32⟩
  | 18 => ⟨S4x16x4x128x6x64, .f32⟩
  | 19 => ⟨S4x16x4x256x6x64, .f32⟩
  | 20 => ⟨S4x512x16x6x64, .f32⟩
  | 21 => ⟨S4x16x512x6x64, .f32⟩
  | 22 => ⟨S4x16x4x128x6x64, .f32⟩
  | 23 => ⟨S4x16x3x128x6x64, .f32⟩
  | 24 => ⟨S_, .i32⟩
  | 25 => ⟨S_, .f32⟩
  | 26 => ⟨S4x16x4x128x6x64, .f32⟩
  | 27 => ⟨S4x16x4x256x6x64, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S4, .i32⟩
  | 46 => ⟨S4x1x1, .i32⟩
  | 47 => ⟨S1x128x256, .i1⟩
  | 48 => ⟨S_, .i32⟩
  | 49 => ⟨S4x1x1, .i32⟩
  | 50 => ⟨S4x1x1, .i1⟩
  | 51 => ⟨S1x1x256, .i32⟩
  | 52 => ⟨S_, .i32⟩
  | 53 => ⟨S1x1x256, .i32⟩
  | 54 => ⟨S1x1x256, .i1⟩
  | 55 => ⟨S4x1x256, .i1⟩
  | 56 => ⟨S4x1x256, .i1⟩
  | 57 => ⟨S4x1x256, .i1⟩
  | 58 => ⟨S4x128x256, .i1⟩
  | 59 => ⟨S4x128x256, .i1⟩
  | 60 => ⟨S4x128x256, .i1⟩
  | 61 => ⟨S_, .i32⟩
  | 62 => ⟨S128x256, .i32⟩
  | 63 => ⟨S128x256, .i32⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S128x256, .f32⟩
  | 71 => ⟨S_, .f32⟩
  | 72 => ⟨S128x256, .f32⟩
  | 73 => ⟨S128x256, .f32⟩
  | 74 => ⟨S128x256, .f32⟩
  | 75 => ⟨S_, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S128x256, .i32⟩
  | 82 => ⟨S_, .i32⟩
  | 83 => ⟨S128x256, .i32⟩
  | 84 => ⟨S128x256, .i32⟩
  | 85 => ⟨S_, .i32⟩
  | 86 => ⟨S128x256, .i32⟩
  | 87 => ⟨S128x256, .i32⟩
  | 88 => ⟨S_, .i32⟩
  | 89 => ⟨S128x256, .i32⟩
  | 90 => ⟨S128x256, .i1⟩
  | 91 => ⟨S128x256, .i32⟩
  | 92 => ⟨S_, .i32⟩
  | 93 => ⟨S128x256, .i32⟩
  | 94 => ⟨S128x256, .i1⟩
  | 95 => ⟨S_, .i32⟩
  | 96 => ⟨S128x256, .i32⟩
  | 97 => ⟨S128x256, .i32⟩
  | 98 => ⟨S128x256, .i32⟩
  | 99 => ⟨S128x256x1, .i32⟩
  | 100 => ⟨S6x128x256, .f32⟩
  | 101 => ⟨S4x16x4x6x128x256, .f32⟩
  | 102 => ⟨S_, .f32⟩
  | 103 => ⟨S4x16x4x6x128x256, .f32⟩
  | 104 => ⟨S4x16x4x6x128x256, .f32⟩
  | 105 => ⟨S1x1x1x6x128x256, .f32⟩
  | 106 => ⟨S4x16x4x6x128x256, .f32⟩
  | 107 => ⟨S4x16x4x6x128x256, .f32⟩
  | 108 => ⟨S4x1x128x256, .i1⟩
  | 109 => ⟨S_, .f32⟩
  | 110 => ⟨S_, .f32⟩
  | 111 => ⟨S4x16x4x6x128x256, .i1⟩
  | 112 => ⟨S4x16x4x6x128x256, .f32⟩
  | 113 => ⟨S4x16x4x6x128x256, .f32⟩
  | 114 => ⟨S_, .f32⟩
  | 115 => ⟨S4x16x4x6x128, .f32⟩
  | 116 => ⟨S4x16x4x6x128x1, .f32⟩
  | 117 => ⟨S4x16x4x6x128x256, .f32⟩
  | 118 => ⟨S4x16x4x6x128x256, .f32⟩
  | 119 => ⟨S4x16x4x6x128x256, .f32⟩
  | 120 => ⟨S_, .f32⟩
  | 121 => ⟨S4x16x4x6x128, .f32⟩
  | 122 => ⟨S4x16x4x6x128x1, .f32⟩
  | 123 => ⟨S4x16x4x6x128x256, .f32⟩
  | 124 => ⟨S4x16x4x6x128x256, .f32⟩
  | 125 => ⟨S4x16x4x6x64x128, .f32⟩
  | 126 => ⟨S4x16x4x128x6x64, .f32⟩
  | 127 => ⟨S4x16x4x6x128x1, .f32⟩
  | _ => ⟨S4x8192x3840, .f32⟩

abbrev hbmTy0_3 (i : Nat) : BufTy := match i % 128 with
  | 0 => ⟨S4x16x4x6x128x1, .f32⟩
  | 1 => ⟨S4x16x4x6x128, .f32⟩
  | 2 => ⟨S4x16x4x128x6, .f32⟩
  | 3 => ⟨S4x16x512x6x64, .f32⟩
  | 4 => ⟨S4x512x16x6x64, .f32⟩
  | 5 => ⟨S4x8192x6x64, .f32⟩
  | 6 => ⟨S4x16x512x6, .f32⟩
  | 7 => ⟨S4x512x16x6, .f32⟩
  | 8 => ⟨S4x8192x6, .f32⟩
  | 9 => ⟨S1x4x8192x6, .f32⟩
  | 10 => ⟨S1x4x8192x6, .f32⟩
  | 11 => ⟨S1x4x8192x6, .f32⟩
  | 12 => ⟨S3x4x8192x6, .f32⟩
  | 13 => ⟨S_, .f32⟩
  | 14 => ⟨S4x8192x6, .f32⟩
  | 15 => ⟨S_, .f32⟩
  | 16 => ⟨S4x8192x6, .f32⟩
  | 17 => ⟨S4x8192x6, .f32⟩
  | 18 => ⟨S1x4x8192x6, .f32⟩
  | 19 => ⟨S3x4x8192x6, .f32⟩
  | 20 => ⟨S3x4x8192x6, .f32⟩
  | 21 => ⟨S3x4x8192x6, .f32⟩
  | 22 => ⟨S_, .f32⟩
  | 23 => ⟨S4x8192x6, .f32⟩
  | 24 => ⟨S1x4x8192x6, .f32⟩
  | 25 => ⟨S3x4x8192x6, .f32⟩
  | 26 => ⟨S3x4x8192x6, .f32⟩
  | 27 => ⟨S1x4x8192x6x64, .f32⟩
  | 28 => ⟨S1x4x8192x6x64, .f32⟩
  | 29 => ⟨S1x4x8192x6x64, .f32⟩
  | 30 => ⟨S3x4x8192x6x64, .f32⟩
  | 31 => ⟨S4x8192x6x64, .f32⟩
  | 32 => ⟨S4x8192x384, .f32⟩
  | _ => ⟨S4x8192x3840, .f32⟩

abbrev hbmTy (i : Nat) : BufTy := match i / 128 with
  | 0 => hbmTy0_0 i
  | 1 => hbmTy0_1 i
  | 2 => hbmTy0_2 i
  | 3 => hbmTy0_3 i
  | _ => ⟨S4x8192x3840, .f32⟩

abbrev bufTy : (tb : Table) → Fin (tcTables nBuf tb) → BufTy
  | .hbm, ⟨i, _⟩ => hbmTy i
  | _, _ => ⟨S4x8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_c_7 : Ref sig .tc := ⟨.hbm, 64, rfl⟩
abbrev main_v52 : Ref sig .tc := ⟨.hbm, 65, rfl⟩
abbrev main_v53 : Ref sig .tc := ⟨.hbm, 66, rfl⟩
abbrev main_c_8 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_11 : Ref sig .tc := ⟨.hbm, 82, rfl⟩
abbrev main_v65 : Ref sig .tc := ⟨.hbm, 83, rfl⟩
abbrev main_v66 : Ref sig .tc := ⟨.hbm, 84, rfl⟩
abbrev main_c_12 : Ref sig .tc := ⟨.hbm, 85, rfl⟩
abbrev main_v67 : Ref sig .tc := ⟨.hbm, 86, rfl⟩
abbrev main_v68 : Ref sig .tc := ⟨.hbm, 87, rfl⟩
abbrev main_c_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_14 : Ref sig .tc := ⟨.hbm, 92, rfl⟩
abbrev main_v72 : Ref sig .tc := ⟨.hbm, 93, rfl⟩
abbrev main_v73 : Ref sig .tc := ⟨.hbm, 94, rfl⟩
abbrev main_c_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_16 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c_20 : Ref sig .tc := ⟨.hbm, 144, rfl⟩
abbrev main_call4_v0 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_c_21 : Ref sig .tc := ⟨.hbm, 152, rfl⟩
abbrev main_call5_v0 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_22 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_c_23 : Ref sig .tc := ⟨.hbm, 166, rfl⟩
abbrev main_v132 : Ref sig .tc := ⟨.hbm, 167, rfl⟩
abbrev main_v133 : Ref sig .tc := ⟨.hbm, 168, rfl⟩
abbrev main_c_24 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_25 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_c_26 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_c_27 : Ref sig .tc := ⟨.hbm, 189, rfl⟩
abbrev main_v151 : Ref sig .tc := ⟨.hbm, 190, rfl⟩
abbrev main_v152 : Ref sig .tc := ⟨.hbm, 191, rfl⟩
abbrev main_c_28 : Ref sig .tc := ⟨.hbm, 192, rfl⟩
abbrev main_v153 : Ref sig .tc := ⟨.hbm, 193, rfl⟩
abbrev main_v154 : Ref sig .tc := ⟨.hbm, 194, rfl⟩
abbrev main_c_29 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_30 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_31 : Ref sig .tc := ⟨.hbm, 203, rfl⟩
abbrev main_v161 : Ref sig .tc := ⟨.hbm, 204, rfl⟩
abbrev main_v162 : Ref sig .tc := ⟨.hbm, 205, rfl⟩
abbrev main_cst_32 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_c_33 : Ref sig .tc := ⟨.hbm, 210, rfl⟩
abbrev main_v166 : Ref sig .tc := ⟨.hbm, 211, rfl⟩
abbrev main_v167 : Ref sig .tc := ⟨.hbm, 212, rfl⟩
abbrev main_c_34 : Ref sig .tc := ⟨.hbm, 213, rfl⟩
abbrev main_v168 : Ref sig .tc := ⟨.hbm, 214, rfl⟩
abbrev main_v169 : Ref sig .tc := ⟨.hbm, 215, rfl⟩
abbrev main_c_35 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_c_36 : Ref sig .tc := ⟨.hbm, 220, rfl⟩
abbrev main_v173 : Ref sig .tc := ⟨.hbm, 221, rfl⟩
abbrev main_v174 : Ref sig .tc := ⟨.hbm, 222, rfl⟩
abbrev main_c_37 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_cst_38 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_39 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_v187 : Ref sig .tc := ⟨.hbm, 241, rfl⟩
abbrev main_cst_40 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_cst_41 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_c_42 : Ref sig .tc := ⟨.hbm, 272, rfl⟩
abbrev main_call8_v0 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_c_43 : Ref sig .tc := ⟨.hbm, 280, rfl⟩
abbrev main_call9_v0 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_c_44 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_c_45 : Ref sig .tc := ⟨.hbm, 294, rfl⟩
abbrev main_v233 : Ref sig .tc := ⟨.hbm, 295, rfl⟩
abbrev main_v234 : Ref sig .tc := ⟨.hbm, 296, rfl⟩
abbrev main_c_46 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_c_47 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_c_48 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_c_49 : Ref sig .tc := ⟨.hbm, 317, rfl⟩
abbrev main_v252 : Ref sig .tc := ⟨.hbm, 318, rfl⟩
abbrev main_v253 : Ref sig .tc := ⟨.hbm, 319, rfl⟩
abbrev main_c_50 : Ref sig .tc := ⟨.hbm, 320, rfl⟩
abbrev main_v254 : Ref sig .tc := ⟨.hbm, 321, rfl⟩
abbrev main_v255 : Ref sig .tc := ⟨.hbm, 322, rfl⟩
abbrev main_c_51 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_cst_52 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_cst_53 : Ref sig .tc := ⟨.hbm, 331, rfl⟩
abbrev main_v262 : Ref sig .tc := ⟨.hbm, 332, rfl⟩
abbrev main_v263 : Ref sig .tc := ⟨.hbm, 333, rfl⟩
abbrev main_cst_54 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_c_55 : Ref sig .tc := ⟨.hbm, 338, rfl⟩
abbrev main_v267 : Ref sig .tc := ⟨.hbm, 339, rfl⟩
abbrev main_v268 : Ref sig .tc := ⟨.hbm, 340, rfl⟩
abbrev main_c_56 : Ref sig .tc := ⟨.hbm, 341, rfl⟩
abbrev main_v269 : Ref sig .tc := ⟨.hbm, 342, rfl⟩
abbrev main_v270 : Ref sig .tc := ⟨.hbm, 343, rfl⟩
abbrev main_c_57 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_c_58 : Ref sig .tc := ⟨.hbm, 348, rfl⟩
abbrev main_v274 : Ref sig .tc := ⟨.hbm, 349, rfl⟩
abbrev main_v275 : Ref sig .tc := ⟨.hbm, 350, rfl⟩
abbrev main_c_59 : Ref sig .tc := ⟨.hbm, 351, rfl⟩
abbrev main_v276 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_cst_60 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_cst_61 : Ref sig .tc := ⟨.hbm, 365, rfl⟩
abbrev main_call11_v0 : Ref sig .tc := ⟨.hbm, 366, rfl⟩
abbrev main_call11_v1 : Ref sig .tc := ⟨.hbm, 367, rfl⟩
abbrev main_call11_v2 : Ref sig .tc := ⟨.hbm, 368, rfl⟩
abbrev main_v288 : Ref sig .tc := ⟨.hbm, 369, rfl⟩
abbrev main_cst_62 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_cst_63 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_cst_64 : Ref sig .tc := ⟨.hbm, 397, rfl⟩
abbrev main_v314 : Ref sig .tc := ⟨.hbm, 398, rfl⟩
abbrev main_cst_65 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_cst_66 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩

abbrev nD : Nat := 1
abbrev τ : Topo := Topo.v7x

variable {F : FTy → Type} [FloatOps F]

def κ : String → Option EReal := fun
  | "mask" => some ⊥
  | _ => none
-- ==== InProj.lean ====
abbrev S4x8192x1024 : Shape := ⟨3, ![4, 8192, 1024]⟩
abbrev S1024 : Shape := ⟨1, ![1024]⟩
abbrev S1024x3840 : Shape := ⟨2, ![1024, 3840]⟩
abbrev S1024x1536 : Shape := ⟨2, ![1024, 1536]⟩
abbrev S1024x1152 : Shape := ⟨2, ![1024, 1152]⟩
abbrev S32768x1024 : Shape := ⟨2, ![32768, 1024]⟩
abbrev S1x1024 : Shape := ⟨2, ![1, 1024]⟩
abbrev S32768x3840 : Shape := ⟨2, ![32768, 3840]⟩
abbrev S512x1024 : Shape := ⟨2, ![512, 1024]⟩
abbrev S512x3840 : Shape := ⟨2, ![512, 3840]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩

abbrev nBuf : Space → Nat
  | .hbm => 11
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3840, .f32⟩
  | .hbm, ⟨3, _⟩ => ⟨S1024x1536, .f32⟩
  | .hbm, ⟨4, _⟩ => ⟨S1024x1152, .f32⟩
  | .hbm, ⟨5, _⟩ => ⟨S1024x1152, .f32⟩
  | .hbm, ⟨6, _⟩ => ⟨S1024x3840, .f32⟩
  | .hbm, ⟨7, _⟩ => ⟨S1024x3840, .bf16⟩
  | .hbm, ⟨8, _⟩ => ⟨S32768x1024, .f32⟩
  | .hbm, ⟨9, _⟩ => ⟨S1x1024, .f32⟩
  | .hbm, ⟨10, _⟩ => ⟨S32768x3840, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x3840, .f32⟩
  | .local _ .vmem, ⟨5, _⟩ => ⟨S512x3840, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S4x8192x1024 : Shape := ⟨3, ![4, 8192, 1024]⟩
abbrev S1024 : Shape := ⟨1, ![1024]⟩
abbrev S1024x3840 : Shape := ⟨2, ![1024, 3840]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3840 : Shape := ⟨3, ![4, 8192, 3840]⟩
abbrev S4x8192x1152 : Shape := ⟨3, ![4, 8192, 1152]⟩
abbrev S4x8192x1536 : Shape := ⟨3, ![4, 8192, 1536]⟩
abbrev S32768x3840 : Shape := ⟨2, ![32768, 3840]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3840, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3840, .f32⟩
  | .hbm, ⟨20, _⟩ => ⟨S4x8192x1152, .f32⟩
  | .hbm, ⟨21, _⟩ => ⟨S4x8192x1536, .f32⟩
  | .hbm, ⟨22, _⟩ => ⟨S4x8192x1152, .f32⟩
  | .hbm, ⟨23, _⟩ => ⟨S4x8192x3840, .f32⟩
  | .hbm, ⟨24, _⟩ => ⟨S32768x3840, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Post.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x512x384 : Shape := ⟨3, ![1, 512, 384]⟩
abbrev S1x512x256 : Shape := ⟨3, ![1, 512, 256]⟩
abbrev S8x5632 : Shape := ⟨2, ![8, 5632]⟩
abbrev S512x1024 : Shape := ⟨2, ![512, 1024]⟩
abbrev S512x384 : Shape := ⟨2, ![512, 384]⟩
abbrev S384x1024 : Shape := ⟨2, ![384, 1024]⟩
abbrev S512x256 : Shape := ⟨2, ![512, 256]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S1x2816 : Shape := ⟨2, ![1, 2816]⟩
abbrev S3x2816 : Shape := ⟨2, ![3, 2816]⟩

abbrev nBuf : Space → Nat
  | .hbm => 25
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S4x8192x384, .f32⟩
  | .hbm, ⟨2, _⟩ => ⟨S4x8192x256, .f32⟩
  | .hbm, ⟨3, _⟩ => ⟨S4x8192x384, .f32⟩
  | .hbm, ⟨4, _⟩ => ⟨S4x8192x256, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S256x1024, .f32⟩
  | .hbm, ⟨13, _⟩ => ⟨S1024x1024, .f32⟩
  | .hbm, ⟨14, _⟩ => ⟨S1024, .f32⟩
  | .hbm, ⟨15, _⟩ => ⟨S1024x1024, .bf16⟩
  | .hbm, ⟨16, _⟩ => ⟨S1x1024, .f32⟩
  | .hbm, ⟨17, _⟩ => ⟨S1024x5632, .bf16⟩
  | .hbm, ⟨18, _⟩ => ⟨S1x5632, .f32⟩
  | .hbm, ⟨19, _⟩ => ⟨S2816x1024, .bf16⟩
  | .hbm, ⟨20, _⟩ => ⟨S1x1024, .f32⟩
  | .hbm, ⟨21, _⟩ => ⟨S1024x1024, .bf16⟩
  | .hbm, ⟨22, _⟩ => ⟨S256x1024, .bf16⟩
  | .hbm, ⟨23, _⟩ => ⟨S1x1024, .f32⟩
  | .hbm, ⟨24, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x384, .f32⟩
  | .local _ .vmem, ⟨3, _⟩ => ⟨S1x512x384, .f32⟩
  | .local _ .vmem, ⟨4, _⟩ => ⟨S1x512x256, .f32⟩
  | .local _ .vmem, ⟨5, _⟩ => ⟨S1x512x256, .f32⟩
  | .local _ .vmem, ⟨6, _⟩ => ⟨S1x512x384, .f32⟩
  | .local _ .vmem, ⟨7, _⟩ => ⟨S1x512x384, .f32⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S8x5632, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PostRefIdeal.lean ====
abbrev S4x8192x1024 : Shape := ⟨3, ![4, 8192, 1024]⟩
abbrev S4x8192x384 : Shape := ⟨3, ![4, 8192, 384]⟩
abbrev S4x8192x256 : Shape := ⟨3, ![4, 8192, 256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩

abbrev nBuf : Space → Nat
  | .hbm => 119
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x384, .f32⟩
  | .hbm, ⟨2, _⟩ => ⟨S4x8192x256, .f32⟩
  | .hbm, ⟨3, _⟩ => ⟨S4x8192x384, .f32⟩
  | .hbm, ⟨4, _⟩ => ⟨S4x8192x256, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x5632, .f32⟩
  | .hbm, ⟨9, _⟩ => ⟨S5632, .f32⟩
  | .hbm, ⟨10, _⟩ => ⟨S2816x1024, .f32⟩
  | .hbm, ⟨11, _⟩ => ⟨S1024, .f32⟩
  | .hbm, ⟨12, _⟩ => ⟨S256x1024, .f32⟩
  | .hbm, ⟨13, _⟩ => ⟨S1024x1024, .f32⟩
  | .hbm, ⟨14, _⟩ => ⟨S1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S4x8192x5632, .f32⟩
  | .hbm, ⟨35, _⟩ => ⟨S_, .i32⟩
  | .hbm, ⟨36, _⟩ => ⟨S_, .f32⟩
  | .hbm, ⟨37, _⟩ => ⟨S4x8194x5632, .f32⟩
  | .hbm, ⟨38, _⟩ => ⟨S4x8192x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S4x8192x5632, .f32⟩
  | .hbm, ⟨43, _⟩ => ⟨S4x8192x5632, .f32⟩
  | .hbm, ⟨44, _⟩ => ⟨S4x8192x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S4x8192x5632, .f32⟩
  | .hbm, ⟨49, _⟩ => ⟨S4x8192x5632, .f32⟩
  | .hbm, ⟨50, _⟩ => ⟨S4x8192x5632, .f32⟩
  | .hbm, ⟨51, _⟩ => ⟨S4x8192x5632, .f32⟩
  | .hbm, ⟨52, _⟩ => ⟨S1x5632, .f32⟩
  | .hbm, ⟨53, _⟩ => ⟨S5632, .f32⟩
  | .hbm, ⟨54, _⟩ => ⟨S1x1x5632, .f32⟩
  | .hbm, ⟨55, _⟩ => ⟨S4x8192x5632, .f32⟩
  | .hbm, ⟨56, _⟩ => ⟨S4x8192x5632, .f32⟩
  | .hbm, ⟨57, _⟩ => ⟨S4x8192x5632, .f32⟩
  | .hbm, ⟨58, _⟩ => ⟨S1x1x5632, .f32⟩
  | .hbm, ⟨59, _⟩ => ⟨S4x8192x5632, .f32⟩
  | .hbm, ⟨60, _⟩ => ⟨S4x8192x5632, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S_, .f32⟩
  | .hbm, ⟨66, _⟩ => ⟨S4x8192x2816, .f32⟩
  | .hbm, ⟨67, _⟩ => ⟨S4x8192x2816, .f32⟩
  | .hbm, ⟨68, _⟩ => ⟨S_, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S4x8192x2816, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192, .f32⟩
  | .hbm, ⟨78, _⟩ => ⟨S4x8192x1, .f32⟩
  | .hbm, ⟨79, _⟩ => ⟨S_, .f32⟩
  | .hbm, ⟨80, _⟩ => ⟨S4x8192x1, .f32⟩
  | .hbm, ⟨81, _⟩ => ⟨S4x8192x1, .f32⟩
  | .hbm, ⟨82, _⟩ => ⟨S_, .f32⟩
  | .hbm, ⟨83, _⟩ => ⟨S4x8192x1, .f32⟩
  | .hbm, ⟨84, _⟩ => ⟨S4x8192x1, .f32⟩
  | .hbm, ⟨85, _⟩ => ⟨S4x8192x1, .f32⟩
  | .hbm, ⟨86, _⟩ => ⟨S4x8192x1024, .f32⟩
  | .hbm, ⟨87, _⟩ => ⟨S4x8192x1024, .f32⟩
  | .hbm, ⟨88, _⟩ => ⟨S1x1x1024, .f32⟩
  | .hbm, ⟨89, _⟩ => ⟨S4x8192x1024, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S_, .f32⟩
  | .hbm, ⟨95, _⟩ => ⟨S4x8192x1024, .f32⟩
  | .hbm, ⟨96, _⟩ => ⟨S4x8192x1024, .f32⟩
  | .hbm, ⟨97, _⟩ => ⟨S_, .f32⟩
  | .hbm, ⟨98, _⟩ => ⟨S4x8192x1024, .f32⟩
  | .hbm, ⟨99, _⟩ => ⟨S4x8192x1024, .f32⟩
  | .hbm, ⟨100, _⟩ => ⟨S4x8192x1024, .f32⟩
  | .hbm, ⟨101, _⟩ => ⟨S4x8192x1024, .f32⟩
  | .hbm, ⟨102, _⟩ => ⟨S4x8192x1024, .f32⟩
  | .hbm, ⟨103, _⟩ => ⟨S4x8192x1024, .f32⟩
  | .hbm, ⟨104, _⟩ => ⟨S_, .f32⟩
  | .hbm, ⟨105, _⟩ => ⟨S4x8192, .f32⟩
  | .hbm, ⟨106, _⟩ => ⟨S4x8192x1, .f32⟩
  | .hbm, ⟨107, _⟩ => ⟨S_, .f32⟩
  | .hbm, ⟨108, _⟩ => ⟨S4x8192x1, .f32⟩
  | .hbm, ⟨109, _⟩ => ⟨S4x8192x1, .f32⟩
  | .hbm, ⟨110, _⟩ => ⟨S_, .f32⟩
  | .hbm, ⟨111, _⟩ => ⟨S4x8192x1, .f32⟩
  | .hbm, ⟨112, _⟩ => ⟨S4x8192x1, .f32⟩
  | .hbm, ⟨113, _⟩ => ⟨S4x8192x1, .f32⟩
  | .hbm, ⟨114, _⟩ => ⟨S4x8192x1024, .f32⟩
  | .hbm, ⟨115, _⟩ => ⟨S4x8192x1024, .f32⟩
  | .hbm, ⟨116, _⟩ => ⟨S1x1x1024, .f32⟩
  | .hbm, ⟨117, _⟩ => ⟨S4x8192x1024, .f32⟩
  | .hbm, ⟨118, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_2 : Ref sig .tc := ⟨.hbm, 76, rfl⟩
abbrev main_v48 : Ref sig .tc := ⟨.hbm, 77, rfl⟩
abbrev main_v49 : Ref sig .tc := ⟨.hbm, 78, rfl⟩
abbrev main_cst_3 : Ref sig .tc := ⟨.hbm, 79, rfl⟩
abbrev main_v50 : Ref sig .tc := ⟨.hbm, 80, rfl⟩
abbrev main_v51 : Ref sig .tc := ⟨.hbm, 81, rfl⟩
abbrev main_cst_4 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_5 : Ref sig .tc := ⟨.hbm, 94, rfl⟩
abbrev main_v63 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_cst_9 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Proof.KIFrame.lean ====
/- The frame of the ideal dilated-attention program `KernelIdeal`: its three counted loops by invariants that keep the
   input blocks and forget what the scratch and output buffers hold, the body's triple, the launch, and the claim
   `Cert.quiescent_KernelIdeal` at any values. -/
module

public import proofs.«01_k».proof.Proof.Gen.KernelIdeal.Frame
public import proofs.«01_k».proof.Proof.Gen.KernelIdeal.Loops

@[expose] public section

set_option maxRecDepth 16384

noncomputable section

namespace Cert.KernelIdeal.Dil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Loops

variable (c : Dev nD) (i : grid0.Coords)
  (arg3 : Memref sig .tc .vmem S1x2048x128 .f32) (harg3 : arg3.IsWhole)
  (arg4 : Memref sig .tc .vmem S1x2048x128 .f32) (harg4 : arg4.IsWhole)
  (arg5 : Memref sig .tc .vmem S1x2048x128 .f32) (harg5 : arg5.IsWhole)
  (arg6 : Memref sig .tc .vmem S1x2048x128 .f32) (harg6 : arg6.IsWhole)
  (arg7 : Memref sig .tc .vmem S1x2048x128 .f32) (harg7 : arg7.IsWhole)
  (arg8 : Memref sig .tc .vmem S3x2x1x256x256 .f32) (harg8 : arg8.IsWhole)
  (arg9 : Memref sig .tc .vmem S1x2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2048x128 .f32) (harg12 : arg12.IsWhole)
  (v0 : BitVec 1)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)

/-- What a loop keeps: the six input blocks at their contents, the three scratch buffers at some contents. -/
abbrev keeps : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
    ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)))

set_option maxHeartbeats 4000000 in
/-- One trip of the first (dilation 16) loop keeps the input blocks. -/
theorem trip1 (k : Fin k0_t1_loop.trips) :
    keeps (F := F) c arg3 arg4 arg5 arg6 arg7 arg8 arg10 arg11 arg12 X3 X4 X5 X6 X7 X8
      ⊢ wp frame (wpE (defs₀ (F := F)) Variants.none (c : Thread nD τ) none) Set.univ
          (k0_t1_body (F := F) i arg3 harg3 arg4 harg4 arg5 harg5 arg6 harg6 arg7 harg7 arg8 harg8 arg9 harg9 arg10 harg10 arg11 harg11 arg12 harg12 v0 k PUnit.unit)
          (fun _ => keeps (F := F) c arg3 arg4 arg5 arg6 arg7 arg8 arg10 arg11 arg12 X3 X4 X5 X6 X7 X8) := by
  unfold k0_t1_body
  iintro ⟨H3, H4, H5, H6, H7, H8, ⟨%f10, H10⟩, ⟨%f11, H11⟩, ⟨%f12, H12⟩⟩
  sl_exec
  sl_step
  sl_close

set_option warn.classDefReducibility false in
/-- The first (dilation 16) loop's invariant: what it keeps. -/
@[sl_loop] def loopInv1 :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 v0 where
  inv _ _ := keeps (F := F) c arg3 arg4 arg5 arg6 arg7 arg8 arg10 arg11 arg12 X3 X4 X5 X6 X7 X8
  step k _ := trip1 c i arg3 harg3 arg4 harg4 arg5 harg5 arg6 harg6 arg7 harg7 arg8 harg8 arg9 harg9 arg10 harg10 arg11 harg11 arg12 harg12 v0 X3 X4 X5 X6 X7 X8 k

set_option maxHeartbeats 4000000 in
/-- One trip of the second (dilation 4) loop keeps the input blocks. -/
theorem trip2 (k : Fin k0_t2_loop.trips) :
    keeps (F := F) c arg3 arg4 arg5 arg6 arg7 arg8 arg10 arg11 arg12 X3 X4 X5 X6 X7 X8
      ⊢ wp frame (wpE (defs₀ (F := F)) Variants.none (c : Thread nD τ) none) Set.univ
          (k0_t2_body (F := F) i arg3 harg3 arg4 harg4 arg5 harg5 arg6 harg6 arg7 harg7 arg8 harg8 arg9 harg9 arg10 harg10 arg11 harg11 arg12 harg12 v0 k PUnit.unit)
          (fun _ => keeps (F := F) c arg3 arg4 arg5 arg6 arg7 arg8 arg10 arg11 arg12 X3 X4 X5 X6 X7 X8) := by
  unfold k0_t2_body
  iintro ⟨H3, H4, H5, H6, H7, H8, ⟨%f10, H10⟩, ⟨%f11, H11⟩, ⟨%f12, H12⟩⟩
  sl_exec
  sl_step
  sl_close

set_option warn.classDefReducibility false in
/-- The second (dilation 4) loop's invariant: what it keeps. -/
@[sl_loop] def loopInv2 :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 v0 where
  inv _ _ := keeps (F := F) c arg3 arg4 arg5 arg6 arg7 arg8 arg10 arg11 arg12 X3 X4 X5 X6 X7 X8
  step k _ := trip2 c i arg3 harg3 arg4 harg4 arg5 harg5 arg6 harg6 arg7 harg7 arg8 harg8 arg9 harg9 arg10 harg10 arg11 harg11 arg12 harg12 v0 X3 X4 X5 X6 X7 X8 k

set_option maxHeartbeats 8000000 in
/-- The body on whole memrefs, the inputs' at read contents `xW` and the others' at anything, runs to the continuation holding
    the inputs' as they were and the others' at anything. -/
theorem sound_kernel (x0 x1 x2 x3 x4 : Vec F S1x2048x128 .f32) (x5 : Vec F S3x2x1x256x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none (c : Thread nD τ) none) Set.univ (cc0_dilated i arg3 harg3 arg4 harg4 arg5 harg5 arg6 harg6 arg7 harg7 arg8 harg8 arg9 harg9 arg10 harg10 arg11 harg11 arg12 harg12) K := by
  simp only [cc0_dilated_eq_skeleton]; unfold cc0_dilated_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  iexists _; iexists _; isplitr; swap; · iexact H9
  ipureintro; rfl

end Loops

variable (m : (ℓ : Loc nD τ sig) → Buf (Elt F) ℓ) (ρ : Dev nD → PrngReg)

/-- The windows whose contents are not followed: the output. -/
abbrev drops : Fin cfg0.W → Bool := fun w => w.val == 6

/-- The proof data: each input's buffer keeps its block, the output's is not followed, nothing is owed, and an array
    that several windows read is dealt among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨_ + 7, h⟩ => absurd h (Nat.not_lt.2 (Nat.le_add_left _ _))
  Φ _ := Pipeline.ΦA spec0 c
  q w := Pipeline.shareOf spec0 w
  owed _ := 0

/-- The data's arrays are what the region finds. -/
theorem A_eq (c : Dev nD) (w : Fin cfg0.W) : (dats m 0 c).A w = V m c (Pipeline.arrRef spec0 w) := by
  dsimp only [dats]

/-- Window 0's buffer keeps its block, -/
theorem after0_0 (c : Dev nD) (t : Fin cfg0.N) : (dats m 0 c).after 0 t = iblk m c 0 t := by dsimp only [dats]
/-- and holds it when the body starts. -/
theorem before0_0 (c : Dev nD) (t : Fin cfg0.N) (d) : (dats m 0 c).before 0 t d = iblk m c 0 t :=
  before0_0_of m (dats m 0 c) (A_eq m c 0) (after0_0 m c) t d
/-- Window 1's buffer keeps its block, -/
theorem after0_1 (c : Dev nD) (t : Fin cfg0.N) : (dats m 0 c).after 1 t = iblk m c 1 t := by dsimp only [dats]
/-- and holds it when the body starts. -/
theorem before0_1 (c : Dev nD) (t : Fin cfg0.N) (d) : (dats m 0 c).before 1 t d = iblk m c 1 t :=
  before0_1_of m (dats m 0 c) (A_eq m c 1) (after0_1 m c) t d
/-- Window 2's buffer keeps its block, -/
theorem after0_2 (c : Dev nD) (t : Fin cfg0.N) : (dats m 0 c).after 2 t = iblk m c 2 t := by dsimp only [dats]
/-- and holds it when the body starts. -/
theorem before0_2 (c : Dev nD) (t : Fin cfg0.N) (d) : (dats m 0 c).before 2 t d = iblk m c 2 t :=
  before0_2_of m (dats m 0 c) (A_eq m c 2) (after0_2 m c) t d
/-- Window 3's buffer keeps its block, -/
theorem after0_3 (c : Dev nD) (t : Fin cfg0.N) : (dats m 0 c).after 3 t = iblk m c 3 t := by dsimp only [dats]
/-- and holds it when the body starts. -/
theorem before0_3 (c : Dev nD) (t : Fin cfg0.N) (d) : (dats m 0 c).before 3 t d = iblk m c 3 t :=
  before0_3_of m (dats m 0 c) (A_eq m c 3) (after0_3 m c) t d
/-- Window 4's buffer keeps its block, -/
theorem after0_4 (c : Dev nD) (t : Fin cfg0.N) : (dats m 0 c).after 4 t = iblk m c 4 t := by dsimp only [dats]
/-- and holds it when the body starts. -/
theorem before0_4 (c : Dev nD) (t : Fin cfg0.N) (d) : (dats m 0 c).before 4 t d = iblk m c 4 t :=
  before0_4_of m (dats m 0 c) (A_eq m c 4) (after0_4 m c) t d
/-- Window 5's buffer keeps its block, -/
theorem after0_5 (c : Dev nD) (t : Fin cfg0.N) : (dats m 0 c).after 5 t = iblk m c 5 t := by dsimp only [dats]
/-- and holds it when the body starts. -/
theorem before0_5 (c : Dev nD) (t : Fin cfg0.N) (d) : (dats m 0 c).before 5 t d = iblk m c 5 t :=
  before0_5_of m (dats m 0 c) (A_eq m c 5) (after0_5 m c) t d

/-- The three scratch buffers and the generator's register, as the body takes and returns them. -/
theorem PhiA_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl,
    after0_0, after0_1, after0_2, after0_3, after0_4, after0_5]
  iintro ⟨⟨⟨S0, S1, S2⟩, Hg⟩, Ho, ⟨%d0, H0⟩, ⟨%d1, H1⟩, ⟨%d2, H2⟩, ⟨%d3, H3⟩, ⟨%d4, H4⟩, ⟨%d5, H5⟩, H6⟩
  iapply (sound_kernel c (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ drops := fun t => by
  rw [bigSep_W0, bigSep_W0, defs₀_row]
  exact triple_restated (sound_body m c t) rfl .rfl fun _ => .rfl

set_option backward.isDefEq.respectTransparency.types false in
set_option maxHeartbeats 800000 in
/-- Every run ends, with the input arrays and the other buffers as the region found them and every semaphore at zero. -/
theorem run_main_quiescent : θ_run defs (onTc (τ := τ) (main (F := F))) (s₀ m ρ)
    (fun r => (Pipeline.RDat.FramePost cfg0 (fun c => (dats m 0 c).toRForget drops) (V m)) r ∧ r.2.sem = fun _ => 0) :=
  Pipeline.θ_run_frame_forget_shared (Q' := _) cfgs (dats m) (0 : Fin 1) launch₀0 defs₀ Variants.none drops m ρ main
    (hbody := fun c => (body_obligation m c).loose) (hq := fun _ _ _ => rfl)
    (howed := fun _ _ => rfl) (V := V m) (hmain := hmain m Variants.none) (hA := A_eq m) (hΦ := fun _ _ => rfl)

/-- The region's end leaves the two arguments as launched. -/
theorem unchanged (r : PUnit × MemSt nD τ sig (Elt F))
    (h : Pipeline.RDat.FramePost cfg0 (fun c => (dats m 0 c).toRForget drops) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c (0 : Fin cfg0.W) (by rfl)).trans ((A_eq m c 0).trans (V_main_arg0 m c)),
    ((h c).2 main_arg1 (Pipeline.mem_restRefs_of main_arg1 (by decide) (by decide))).trans (V_main_arg1 m c)⟩

/-- Every run ends with the arguments as launched and every semaphore at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => unchanged m r h.1 c, h.2⟩) (run_main_quiescent m ρ)

end Cert.KernelIdeal.Dil

end
-- ==== Proof.RFrame.lean ====
/- The frame of the dilated attention's reference. -/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Dil

open Idealize.ShloMosaic Idealize.ShloMosaic.TcCoe Idealize.SL.Sem Idealize.ShloMosaic.StableHlo
open Cert.ReferenceIdeal Cert.ReferenceIdeal.Gen

set_option maxHeartbeats 4000000 in
/-- Every run of the reference ends, with its arguments as launched and every semaphore at zero. -/
theorem frame : Cert.quiescent_ReferenceIdeal := by
  intro m g _
  hlo_run
  · exact fun _ => ⟨trivial, trivial⟩
  · exact sem_eq_zero_of_no_sems (sig := sig) (by decide) _

end Cert.ReferenceIdeal.Dil

end
-- ==== Proof.InProjValue.lean ====
/- The value of the input projection: what the idealized kernel leaves in its result array is the closed form `G` of the
   three arguments, and so is what the reference computes. -/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Claim
public import Idealize.ShloMosaic.Lib.Pointwise

@[expose] public section

set_option maxRecDepth 16384

noncomputable section

namespace Cert.InProjIdeal.Val

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ)

/-- The weight column that output column `n` reads: the branch order of the weights is changed before the kernel runs. -/
def wcol (W : FVec Ideal S1024x3840 .f32) (k : Fin 1024) (n : Fin 3840) : EReal :=
  if h : (n : ℕ) < 1536 then W (ix2 k ⟨1152 + n, by omega⟩)
  else if h' : (n : ℕ) - 1536 < 1152 then W (ix2 k ⟨n - 1536, by omega⟩)
  else W (ix2 k ⟨2688 + (n - 1536 - 1152), by omega⟩)

/-- One entry of the projection: a row `x` divided by its root mean square, scaled by `g`, against a column `w`. -/
def dotn (x g w : Fin 1024 → EReal) : EReal :=
  ∑ k : Fin 1024, x k * Ideal.rsqrt (Ideal.div (∑ l : Fin 1024, x l * x l) (Ideal.ofBits FTy.f32 1149239296#32)
        + Ideal.ofBits FTy.f32 897988541#32) * g k * w k

/-- The projection as one function of the arguments. -/
def G (X : FVec Ideal S4x8192x1024 .f32) (g : FVec Ideal S1024 .f32) (W : FVec Ideal S1024x3840 .f32) :
    FVec Ideal S32768x3840 .f32 := fun j =>
  dotn (fun k => X (ix3 ⟨(j 0 : ℕ) / 8192, by idx_bounds; omega⟩ ⟨(j 0 : ℕ) % 8192, by omega⟩ k)) (fun k => g (ix1 k))
    (fun k => wcol W k (j 1))

/-- The block index of every window at grid point `t`. -/
theorem idx : ∀ t : Fin cfg0.N, win0_0.index t = ![t.val, 0] ∧ win0_1.index t = ![0, 0] ∧ win0_2.index t = ![0, 0]
    ∧ win0_3.index t = ![t.val, 0] ∧ t.val < 64 :=
  (by decide +kernel : ∀ t : Fin grid0.N, _)

/-- What a block of rows becomes: each normalised row against each column of the block of weights. -/
def T (x0 : FVec Ideal S512x1024 .f32) (x1 : FVec Ideal S1x1024 .f32) (x2 : FVec Ideal S1024x3840 .bf16) :
    FVec Ideal S512x3840 .f32 := fun i =>
  dotn (fun k => x0 (ix2 (i 0) k)) (fun k => x1 (ix2 0 k)) (fun k => x2 (ix2 k (i 1)))

/-- The five stores of the body together hold `T` of the input blocks. -/
theorem out_T (x0 : FVec Ideal S512x1024 .f32) (x1 : FVec Ideal S1x1024 .f32) (x2 : FVec Ideal S1024x3840 .bf16) (y : S512x3840.Idx) :
    out0_3 (F := Ideal) x0 x1 x2 y = T x0 x1 x2 y := by
  unfold T dotn
  canon_tiles x h
  all_goals (open_payloads; pointwise)
  all_goals blk_point []

/-- Row `a` of the block of activations at grid point `t` is row `512 t + a` of the flattened activations. -/
theorem blk_x (c : Dev nD) (t : Fin cfg0.N) (a : Fin 512) (k : Fin 1024) :
    iblk m c 0 t (ix2 a k) = m ((c : Thread nD τ).loc main_arg0)
      (ix3 (⟨(t.val * 512 + a) / 8192, by have := (idx t).2.2.2.2; omega⟩ : Fin 4) (⟨(t.val * 512 + a) % 8192, by omega⟩ : Fin 8192) k) := by
  blk_simp [iblk, idx t]
  entry_read
  pointwise
  blk_ext [idx t]

/-- The scale's block is the scale. -/
theorem blk_g (c : Dev nD) (t : Fin cfg0.N) (k : Fin 1024) :
    iblk m c 1 t (ix2 (0 : Fin 1) k) = m ((c : Thread nD τ).loc main_arg1) (ix1 k) := by
  blk_simp [iblk, idx t]
  entry_read
  pointwise
  blk_ext [idx t]

/-- The weights as they stand at the kernel's entry: three slices of the columns put together in another order. -/
theorem entry_cat (c : Dev nD) : V m c main_v4
    = show FVec Ideal S1024x3840 .bf16 from truncf (F := Ideal) .bf16 (concatenate S1024x3840 1
        [⟨S1024x1536, extractStridedSlice S1024x1536 ![0, 1152] (m ((c : Thread nD τ).loc main_arg2)) slices_S1024x3840_S1024x1536_0_1152⟩,
         ⟨S1024x1152, extractStridedSlice S1024x1152 ![0, 0] (m ((c : Thread nD τ).loc main_arg2)) slices_S1024x3840_S1024x1152_0_0⟩,
         ⟨S1024x1152, extractStridedSlice S1024x1152 ![0, 2688] (m ((c : Thread nD τ).loc main_arg2)) slices_S1024x3840_S1024x1152_0_2688⟩]
        concatenates_S1024x1536_S1024x1152_S1024x1152_S1024x3840_d1) bitsLt_bf16_f32 := by
  unfold V
  after_results <;> rfl

/-- An entry of the weights at the kernel's entry. -/
theorem entry_w (c : Dev nD) (k : Fin 1024) (n : Fin 3840) :
    V m c main_v4 (ix2 k n) = wcol (m ((c : Thread nD τ).loc main_arg2)) k n := by
  refine (congrFun (entry_cat m c) (ix2 k n)).trans ?_
  pointwise [wcol]

/-- The block of weights has its columns in the kernel's order. -/
theorem blk_w (c : Dev nD) (t : Fin cfg0.N) (k : Fin 1024) (n : Fin 3840) :
    iblk m c 2 t (ix2 k n) = wcol (m ((c : Thread nD τ).loc main_arg2)) k n := by
  blk_simp [iblk, idx t]
  refine Eq.trans (congrArg (V m c main_v4) ?_) (entry_w m c k n)
  blk_ext [idx t]

/-- `T` of the blocks at grid point `t` is `G` of the arguments at the place the block lies. -/
theorem core (c : Dev nD) (t : Fin cfg0.N) (y) :
    T (iblk m c 0 t) (iblk m c 1 t) (iblk m c 2 t) y
      = G (m ((c : Thread nD τ).loc main_arg0)) (m ((c : Thread nD τ).loc main_arg1)) (m ((c : Thread nD τ).loc main_arg2))
        (((cfg0.win 3).blk t).view.emb y) := by
  idx_vars y
  unfold T G
  congr 1 <;> funext k
  · refine (blk_x m c t y0 k).trans ?_
    blk_ext [idx t]
  · exact blk_g m c t k
  · refine (blk_w m c t k y1).trans (congrArg (wcol _ k) ?_)
    apply Fin.ext
    blk_simp [idx t]

/-- The result array after the kernel's run. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact (out_T _ _ _ y).trans (core m c t y)

/-- The idealized input projection and its reference leave the same array. -/
theorem algebraic : Cert.algebraic_InProjIdeal_InProjRefIdeal := by
  pair_intro
  · run_from Cert.InProjIdeal.Gen.run_main m g
  · run_from Cert.InProjRefIdeal.Value.run m' g'
    refine Eq.trans ?_ (final m c).symm
    funext j
    idx_vars j
    pointwise [G, dotn, wcol]
    split_ifs <;> blk_point [] <;> exact congrFun (hagree c).2.2 _

end Cert.InProjIdeal.Val

end
-- ==== Proof.PostValue.lean ====
/- The value of the call that ends the layer: what the idealized kernel leaves in its result array is the closed form
   `G` of the arguments, and so is what the reference computes. -/
module

public import proofs.«01_k».proof.Defs
public import proofs.«01_k».proof.Proof.Gen.PostIdeal.Value
public import proofs.«01_k».proof.Proof.Gen.PostRefIdeal.Run
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.PostIdeal.Val

open Idealize.ShloMosaic Idealize.ShloMosaic.TcCoe Idealize.SL.Sem
open Idealize.ShloMosaic.Pipeline (Dat)
open Cert.PostIdeal Cert.PostIdeal.Gen

variable (m : (ℓ : Loc nD τ sig) → Buf (Elt Ideal) ℓ)

/-! ## One row -/

/-- A row divided by its root mean square and scaled. -/
def nrm (x g : Fin 1024 → EReal) (k : Fin 1024) : EReal :=
  x k * Ideal.rsqrt (Ideal.div (∑ l : Fin 1024, x l * x l) (Ideal.ofBits FTy.f32 1149239296#32)
    + Ideal.ofBits FTy.f32 897988541#32) * g k

/-- A row plus the output projection of the three mixers' rows. -/
def mixed (x : Fin 1024 → EReal) (ya : Fin 384 → EReal) (yb : Fin 256 → EReal) (yc : Fin 384 → EReal)
    (w : Fin 1024 → Fin 1024 → EReal) (n : Fin 1024) : EReal :=
  x n + (∑ k : Fin 384, ya k * w ⟨k, by omega⟩ n) + (∑ k : Fin 256, yb k * w ⟨384 + k, by omega⟩ n)
    + ∑ k : Fin 384, yc k * w ⟨640 + k, by omega⟩ n

/-- The feed-forward part's first product, of the normalised row. -/
def hid (x g : Fin 1024 → EReal) (w : Fin 1024 → Fin 5632 → EReal) (c : Fin 5632) : EReal :=
  ∑ k : Fin 1024, nrm x g k * w k c

/-- The causal convolution of three successive rows. -/
def conv (cw : Fin 3 → Fin 5632 → EReal) (cb u2 u1 u0 : Fin 5632 → EReal) (c : Fin 5632) : EReal :=
  cw 0 c * u2 c + cw 1 c * u1 c + cw 2 c * u0 c + cb c

/-- The logistic function as both programs write it. -/
def sg (x : EReal) : EReal :=
  Ideal.div 1 (1 + Ideal.exp (-x))

/-- A row plus the gated product of the convolved row. -/
def ffn (x : Fin 1024 → EReal) (h : Fin 5632 → EReal) (w : Fin 2816 → Fin 1024 → EReal) (n : Fin 1024) : EReal :=
  x n + ∑ k : Fin 2816, h ⟨k, by omega⟩ * sg (h ⟨k, by omega⟩) * h ⟨2816 + k, by omega⟩ * w k n

/-- A row plus the gated projection of the per-layer embedding's row. -/
def ple (x g : Fin 1024 → EReal) (wg : Fin 1024 → Fin 1024 → EReal) (p : Fin 256 → EReal)
    (we : Fin 256 → Fin 1024 → EReal) (n : Fin 1024) : EReal :=
  x n + sg (∑ k : Fin 1024, nrm x g k * wg k n) * ∑ k : Fin 256, p k * we k n

/-! ## The kernel's values at an index -/

/-- A choice by whether a row number is `k`. -/
theorem sel_eq (x : Fin 512) (k : ℕ) (hk : k < 512) (p q : EReal) :
    Scalar.select (IntOp.cmpi CmpIPredicate.eq (BitVec.ofNat 32 x.val) (BitVec.ofNat 32 k)) p q = if x.val = k then p else q := by
  have h : (BitVec.ofNat 32 x.val = BitVec.ofNat 32 k) ↔ x.val = k := by
    rw [← BitVec.toNat_inj, BitVec.toNat_ofNat, BitVec.toNat_ofNat]; omega
  by_cases hx : x.val = k
  · simp [Scalar.select, IntOp.cmpi, hx]
  · have := mt h.1 hx
    have hb : (BitVec.ofNat 32 x.val == BitVec.ofNat 32 k) = false := beq_eq_false_iff_ne.2 this
    simp [Scalar.select, IntOp.cmpi, hx, hb]

/-- The residual after the mixers, -/
def kmix (x0 : Vec Ideal S1x512x1024 .f32) (x1 : Vec Ideal S1x512x384 .f32) (x2 : Vec Ideal S1x512x256 .f32) (x3 : Vec Ideal S1x512x384 .f32) (x5 : Vec Ideal S1024x1024 .bf16) : FVec Ideal S512x1024 .f32 :=
  k0_pay3 x0 x1 (View.ld x5 (Rect.unit ![0, 0] ![384, 1024] inb_S1024x1024_S384x1024_0_0)) x2 (View.ld x5 (Rect.unit ![384, 0] ![256, 1024] inb_S1024x1024_S256x1024_384_0)) x3 (View.ld x5 (Rect.unit ![640, 0] ![384, 1024] inb_S1024x1024_S384x1024_640_0))
/-- its rows' sums of squares, -/
def ksq (x0 : Vec Ideal S1x512x1024 .f32) (x1 : Vec Ideal S1x512x384 .f32) (x2 : Vec Ideal S1x512x256 .f32) (x3 : Vec Ideal S1x512x384 .f32) (x5 : Vec Ideal S1024x1024 .bf16) : FVec Ideal S512x1 .f32 :=
  k0_pay5 x0 x1 (View.ld x5 (Rect.unit ![0, 0] ![384, 1024] inb_S1024x1024_S384x1024_0_0)) x2 (View.ld x5 (Rect.unit ![384, 0] ![256, 1024] inb_S1024x1024_S256x1024_384_0)) x3 (View.ld x5 (Rect.unit ![640, 0] ![384, 1024] inb_S1024x1024_S384x1024_640_0))
/-- its normalised rows, -/
def knrm (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) : FVec Ideal S512x1024 .bf16 :=
  k0_pay6 (kmix x0 x1 x2 x3 x5) (k0_pay4 x6) (ksq x0 x1 x2 x3 x5)
/-- and the two halves of the feed-forward part's first product. -/
def kul (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) : FVec Ideal S512x2816 .f32 := k0_pay8 (kmix x0 x1 x2 x3 x5) (k0_pay4 x6) (ksq x0 x1 x2 x3 x5) (View.ld x7 (Rect.unit ![0, 0] ![1024, 2816] inb_S1024x5632_S1024x2816_0_0))
/-- The second half. -/
def kur (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) : FVec Ideal S512x2816 .f32 := k0_pay15 (knrm x0 x1 x2 x3 x5 x6) (View.ld x7 (Rect.unit ![0, 2816] ![1024, 2816] inb_S1024x5632_S1024x2816_0_2816))

/-- Row `a` of the residual after the mixers. -/
def R1 (x0 : Vec Ideal S1x512x1024 .f32) (x1 : Vec Ideal S1x512x384 .f32) (x2 : Vec Ideal S1x512x256 .f32) (x3 : Vec Ideal S1x512x384 .f32) (x5 : Vec Ideal S1024x1024 .bf16) (a : Fin 512) : Fin 1024 → EReal :=
  mixed (fun k => x0 (ix3 0 a k)) (fun k => x1 (ix3 0 a k)) (fun k => x2 (ix3 0 a k)) (fun k => x3 (ix3 0 a k)) (fun k n => x5 (ix2 k n))

/-- Row `a` of the first product. -/
def U (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (a : Fin 512) : Fin 5632 → EReal :=
  hid (R1 x0 x1 x2 x3 x5 a) (fun k => x6 (ix2 0 k)) (fun k c => x7 (ix2 k c))

theorem kmix_at (x0 : Vec Ideal S1x512x1024 .f32) (x1 : Vec Ideal S1x512x384 .f32) (x2 : Vec Ideal S1x512x256 .f32) (x3 : Vec Ideal S1x512x384 .f32) (x5 : Vec Ideal S1024x1024 .bf16) (a : Fin 512) (n : Fin 1024) : kmix x0 x1 x2 x3 x5 (ix2 a n) = R1 x0 x1 x2 x3 x5 a n := by
  pointwise [kmix, k0_pay3, R1, mixed]

theorem ksq_at (x0 : Vec Ideal S1x512x1024 .f32) (x1 : Vec Ideal S1x512x384 .f32) (x2 : Vec Ideal S1x512x256 .f32) (x3 : Vec Ideal S1x512x384 .f32) (x5 : Vec Ideal S1024x1024 .bf16) (a : Fin 512) : ksq x0 x1 x2 x3 x5 (ix2 a 0) = ∑ l : Fin 1024, R1 x0 x1 x2 x3 x5 a l * R1 x0 x1 x2 x3 x5 a l := by
  have h : ksq x0 x1 x2 x3 x5 (ix2 a 0) = ∑ l : Fin 1024, kmix x0 x1 x2 x3 x5 (ix2 a l) * kmix x0 x1 x2 x3 x5 (ix2 a l) := by
    pointwise [ksq, k0_pay5, kmix]
  rw [h]; simp only [kmix_at]

theorem pay6_at (v25 : FVec Ideal S512x1024 .f32) (v26 : FVec Ideal S1x1024 .f32) (v30 : FVec Ideal S512x1 .f32) (a : Fin 512) (k : Fin 1024) :
    k0_pay6 v25 (k0_pay4 v26) v30 (ix2 a k) = v25 (ix2 a k) * Ideal.rsqrt (Ideal.div (v30 (ix2 a 0)) (Ideal.ofBits FTy.f32 1149239296#32)
    + Ideal.ofBits FTy.f32 897988541#32) * v26 (ix2 0 k) := by
  pointwise [k0_pay6, k0_pay4]

theorem knrm_at (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (a : Fin 512) (k : Fin 1024) :
    knrm x0 x1 x2 x3 x5 x6 (ix2 a k) = nrm (R1 x0 x1 x2 x3 x5 a) (fun k => x6 (ix2 0 k)) k := by
  unfold knrm nrm
  rw [pay6_at, ksq_at, kmix_at]

theorem pay8_at (v25 : FVec Ideal S512x1024 .f32) (v27 : FVec Ideal S1x1024 .f32) (v30 : FVec Ideal S512x1 .f32) (v43 : Vec Ideal S1024x2816 .bf16) (a : Fin 512) (n : Fin 2816) :
    k0_pay8 v25 v27 v30 v43 (ix2 a n) = ∑ k : Fin 1024, k0_pay6 v25 v27 v30 (ix2 a k) * v43 (ix2 k n) := by
  pointwise [k0_pay8]

theorem pay15_at (v40 : FVec Ideal S512x1024 .bf16) (v43 : Vec Ideal S1024x2816 .bf16) (a : Fin 512) (n : Fin 2816) :
    k0_pay15 v40 v43 (ix2 a n) = ∑ k : Fin 1024, v40 (ix2 a k) * v43 (ix2 k n) := by
  pointwise [k0_pay15]

theorem kul_at (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (a : Fin 512) (n : Fin 2816) : kul x0 x1 x2 x3 x5 x6 x7 (ix2 a n) = U x0 x1 x2 x3 x5 x6 x7 a ⟨n, by omega⟩ := by
  unfold kul U hid
  rw [pay8_at]
  refine Finset.sum_congr rfl fun k _ => ?_
  refine congrArg₂ (· * ·) (knrm_at x0 x1 x2 x3 x5 x6 a k) ?_
  pointwise
  blk_ext

theorem kur_at (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (a : Fin 512) (n : Fin 2816) : kur x0 x1 x2 x3 x5 x6 x7 (ix2 a n) = U x0 x1 x2 x3 x5 x6 x7 a ⟨2816 + n, by omega⟩ := by
  unfold kur U hid
  rw [pay15_at]
  refine Finset.sum_congr rfl fun k _ => ?_
  refine congrArg₂ (· * ·) (knrm_at x0 x1 x2 x3 x5 x6 a k) ?_
  pointwise
  blk_ext

/-- The row before row `a`: of the block, or the last of the rows `s` kept from the block before. -/
def prev1 (u : Fin 512 → Fin 5632 → EReal) (s : Fin 8 → Fin 5632 → EReal) (a : Fin 512) : Fin 5632 → EReal :=
  if a.val = 0 then s 7 else u ⟨a.val - 1, by omega⟩

/-- The row two before row `a`. -/
def prev2 (u : Fin 512 → Fin 5632 → EReal) (s : Fin 8 → Fin 5632 → EReal) (a : Fin 512) : Fin 5632 → EReal :=
  if a.val = 0 then s 6 else if a.val = 1 then s 7 else u ⟨a.val - 2, by omega⟩

theorem pay10_at (v25 : FVec Ideal S512x1024 .f32) (v27 : FVec Ideal S1x1024 .f32) (v30 : FVec Ideal S512x1 .f32) (v43 : Vec Ideal S1024x2816 .bf16) (v46 : Vec Ideal S8x2816 .f32) (a : Fin 512) (n : Fin 2816) :
    k0_pay10 v25 v27 v30 v43 v46 (ix2 a n) = if a.val = 0 then v46 (ix2 7 n) else k0_pay8 v25 v27 v30 v43 (ix2 ⟨a.val - 1, by omega⟩ n) := by
  pointwise [k0_pay10]
  refine (sel_eq a 0 (by decide) _ _).trans ?_
  split_ifs with h
  · rfl
  · congr 2; apply Fin.ext; show (a.val + 512 - 1) % 512 = a.val - 1; omega

theorem pay11_at (v25 : FVec Ideal S512x1024 .f32) (v27 : FVec Ideal S1x1024 .f32) (v30 : FVec Ideal S512x1 .f32) (v43 : Vec Ideal S1024x2816 .bf16) (v46 : Vec Ideal S8x2816 .f32) (a : Fin 512) (n : Fin 2816) :
    Scalar.select (k0_pay12 (ix2 a n)) (k0_pay13 v46 (ix2 0 n)) (k0_pay11 v25 v27 v30 v43 v46 (ix2 a n)) = if a.val = 0 then v46 (ix2 6 n) else if a.val = 1 then v46 (ix2 7 n) else k0_pay8 v25 v27 v30 v43 (ix2 ⟨a.val - 2, by omega⟩ n) := by
  pointwise [k0_pay11, k0_pay12, k0_pay13]
  refine (sel_eq a 0 (by decide) _ _).trans ?_
  split_ifs with h h'
  · rfl
  · exact (sel_eq a 1 (by decide) _ _).trans (if_pos h')
  · refine (sel_eq a 1 (by decide) _ _).trans ((if_neg h').trans ?_)
    congr 2; apply Fin.ext; show (a.val + 512 - 2) % 512 = a.val - 2; omega

theorem pay17_at (v40 : FVec Ideal S512x1024 .bf16) (v93 : Vec Ideal S1024x2816 .bf16) (v96 : Vec Ideal S8x2816 .f32) (a : Fin 512) (n : Fin 2816) :
    k0_pay17 v40 (iota Kind.tc S512x1 32 [0] iota_S512x1_d0_w32) v93 v96 (ix2 a n) = if a.val = 0 then v96 (ix2 7 n) else k0_pay15 v40 v93 (ix2 ⟨a.val - 1, by omega⟩ n) := by
  pointwise [k0_pay17]
  refine (sel_eq a 0 (by decide) _ _).trans ?_
  split_ifs with h
  · rfl
  · congr 2; apply Fin.ext; show (a.val + 512 - 1) % 512 = a.val - 1; omega

theorem pay21_at (v40 : FVec Ideal S512x1024 .bf16) (v93 : Vec Ideal S1024x2816 .bf16) (v96 : Vec Ideal S8x2816 .f32) (a : Fin 512) (n : Fin 2816) :
    Scalar.select (k0_pay18 (iota Kind.tc S512x1 32 [0] iota_S512x1_d0_w32) (ix2 a 0)) (k0_pay19 v96 (ix2 0 n))
      (Scalar.select (k0_pay22 (iota Kind.tc S512x1 32 [0] iota_S512x1_d0_w32) (ix2 a 0)) (k0_pay20 v96 (ix2 0 n)) (k0_pay21 v40 v93 (ix2 a n))) = if a.val = 0 then v96 (ix2 6 n) else if a.val = 1 then v96 (ix2 7 n) else k0_pay15 v40 v93 (ix2 ⟨a.val - 2, by omega⟩ n) := by
  pointwise [k0_pay18, k0_pay19, k0_pay20, k0_pay21, k0_pay22]
  refine (sel_eq a 0 (by decide) _ _).trans ?_
  split_ifs with h h'
  · rfl
  · exact (sel_eq a 1 (by decide) _ _).trans (if_pos h')
  · refine (sel_eq a 1 (by decide) _ _).trans ((if_neg h').trans ?_)
    congr 2; apply Fin.ext; show (a.val + 512 - 2) % 512 = a.val - 2; omega

theorem pay14_at (v45 v59 v71 : FVec Ideal S512x2816 .f32) (v73 : IVec S512x2816 1) (v74 : FVec Ideal S1x2816 .f32) (v77 : Vec Ideal S3x2816 .f32) (v89 : Vec Ideal S1x2816 .f32) (a : Fin 512) (n : Fin 2816) :
    k0_pay14 v45 v59 v71 v73 v74 v77 v89 (ix2 a n) = v77 (ix2 0 n) * Scalar.select (v73 (ix2 a n)) (v74 (ix2 0 n)) (v71 (ix2 a n)) + v77 (ix2 1 n) * v59 (ix2 a n) + v77 (ix2 2 n) * v45 (ix2 a n) + v89 (ix2 0 n) := by
  pointwise [k0_pay14]

theorem pay23_at (v25 : FVec Ideal S512x1024 .f32) (v92 v95 v109 : FVec Ideal S512x2816 .f32) (v116 : FVec Ideal S512x2816 .f32) (v111 v117 : IVec S512x1 1) (v112 v115 : FVec Ideal S1x2816 .f32) (v127 : Vec Ideal S3x2816 .f32) (v139 : Vec Ideal S1x2816 .f32) (v153 : Vec Ideal S2816x1024 .bf16) (a : Fin 512) (n : Fin 1024) :
    k0_pay23 v25 k0_pay7 v92 v95 v109 v111 v112 v115 v116 v117 v127 v139 v153 (ix2 a n) = v25 (ix2 a n) + ∑ k : Fin 2816, v92 (ix2 a k) * sg (v92 (ix2 a k)) *
      (v127 (ix2 0 k) * Scalar.select (v111 (ix2 a 0)) (v112 (ix2 0 k)) (Scalar.select (v117 (ix2 a 0)) (v115 (ix2 0 k)) (v116 (ix2 a k))) + v127 (ix2 1 k) * v109 (ix2 a k) + v127 (ix2 2 k) * v95 (ix2 a k) + v139 (ix2 0 k)) * v153 (ix2 k n) := by
  pointwise [k0_pay23, k0_pay7, sg]
  simp only [zero_sub]

theorem pay27_at (v157 : FVec Ideal S512x1024 .f32) (v158 : FVec Ideal S1x1024 .f32) (v162 : FVec Ideal S512x1 .f32) (v173 : Vec Ideal S1024x1024 .bf16) (v183 : Vec Ideal S1x512x256 .f32) (v186 : Vec Ideal S256x1024 .bf16) (v191 : Vec Ideal S1x1024 .f32) (a : Fin 512) (n : Fin 1024)
    (h : v162 (ix2 a 0) = ∑ l : Fin 1024, v157 (ix2 a l) * v157 (ix2 a l)) :
    k0_pay1 (k0_pay27 v157 (k0_pay24 v158) v162 k0_pay26 v173 v183 v186 v191) (ix3 0 a n)
      = nrm (ple (fun k => v157 (ix2 a k)) (fun k => v158 (ix2 0 k)) (fun k n => v173 (ix2 k n)) (fun k => v183 (ix3 0 a k)) (fun k n => v186 (ix2 k n))) (fun k => v191 (ix2 0 k)) n := by
  pointwise [k0_pay1, k0_pay27, k0_pay24, k0_pay26, nrm, ple, sg]
  simp only [zero_sub, h]

/-- The kept rows as one array of two halves. -/
def S2 (sl sr : Vec Ideal S8x2816 .f32) (r : Fin 8) (c : Fin 5632) : EReal :=
  if h : c.val < 2816 then sl (ix2 r ⟨c, h⟩) else sr (ix2 r ⟨c - 2816, by omega⟩)

/-- Row `a` of the convolution. -/
def H (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (s : Fin 8 → Fin 5632 → EReal) (a : Fin 512) : Fin 5632 → EReal :=
  conv (fun i c => x8 (ix2 i c)) (fun c => x9 (ix2 0 c)) (prev2 (U x0 x1 x2 x3 x5 x6 x7) s a) (prev1 (U x0 x1 x2 x3 x5 x6 x7) s a) (U x0 x1 x2 x3 x5 x6 x7 a)

/-- Row `a` of the block's result. -/
def B (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (s : Fin 8 → Fin 5632 → EReal) (x4 : Vec Ideal S1x512x256 .f32) (x10 : Vec Ideal S2816x1024 .bf16) (x11 : Vec Ideal S1x1024 .f32) (x12 : Vec Ideal S1024x1024 .bf16) (x13 : Vec Ideal S256x1024 .bf16) (x14 : Vec Ideal S1x1024 .f32) (a : Fin 512) : Fin 1024 → EReal :=
  nrm (ple (ffn (R1 x0 x1 x2 x3 x5 a) (H x0 x1 x2 x3 x5 x6 x7 x8 x9 s a) (fun k n => x10 (ix2 k n))) (fun k => x11 (ix2 0 k)) (fun k n => x12 (ix2 k n))
    (fun k => x4 (ix3 0 a k)) (fun k n => x13 (ix2 k n))) (fun k => x14 (ix2 0 k))

/-- The convolution's first half as the kernel computes it. -/
def kgate (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (sl : Vec Ideal S8x2816 .f32) : FVec Ideal S512x2816 .f32 :=
  k0_pay14 (kul x0 x1 x2 x3 x5 x6 x7) (k0_pay10 (kmix x0 x1 x2 x3 x5) (k0_pay4 x6) (ksq x0 x1 x2 x3 x5) (View.ld x7 (Rect.unit ![0, 0] ![1024, 2816] inb_S1024x5632_S1024x2816_0_0)) sl) (k0_pay11 (kmix x0 x1 x2 x3 x5) (k0_pay4 x6) (ksq x0 x1 x2 x3 x5) (View.ld x7 (Rect.unit ![0, 0] ![1024, 2816] inb_S1024x5632_S1024x2816_0_0)) sl) k0_pay12 (k0_pay13 sl)
    (View.ld x8 (Rect.unit ![0, 0] ![3, 2816] inb_S3x5632_S3x2816_0_0)) (View.ld x9 (Rect.unit ![0, 0] ![1, 2816] inb_S1x5632_S1x2816_0_0))

theorem kgate_at (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (sl : Vec Ideal S8x2816 .f32) (sr : Vec Ideal S8x2816 .f32) (a : Fin 512) (n : Fin 2816) :
    kgate x0 x1 x2 x3 x5 x6 x7 x8 x9 sl (ix2 a n) = H x0 x1 x2 x3 x5 x6 x7 x8 x9 (S2 sl sr) a ⟨n, by omega⟩ := by
  unfold kgate H conv
  rw [pay14_at, pay10_at, pay11_at, kul_at]
  have hu : ∀ b : Fin 512, k0_pay8 (kmix x0 x1 x2 x3 x5) (k0_pay4 x6) (ksq x0 x1 x2 x3 x5) (View.ld x7 (Rect.unit ![0, 0] ![1024, 2816] inb_S1024x5632_S1024x2816_0_0)) (ix2 b n) = U x0 x1 x2 x3 x5 x6 x7 b ⟨n, by omega⟩ := fun b => kul_at x0 x1 x2 x3 x5 x6 x7 b n
  have hs : ∀ r : Fin 8, S2 sl sr r ⟨n, by omega⟩ = sl (ix2 r n) := fun r => dif_pos n.isLt
  rw [hu, hu]
  have h1 : prev1 (U x0 x1 x2 x3 x5 x6 x7) (S2 sl sr) a ⟨n, by omega⟩ = if a.val = 0 then sl (ix2 7 n) else U x0 x1 x2 x3 x5 x6 x7 ⟨a.val - 1, by omega⟩ ⟨n, by omega⟩ := by
    unfold prev1; split_ifs; · exact hs 7
    · rfl
  have h2 : prev2 (U x0 x1 x2 x3 x5 x6 x7) (S2 sl sr) a ⟨n, by omega⟩ = if a.val = 0 then sl (ix2 6 n) else if a.val = 1 then sl (ix2 7 n) else U x0 x1 x2 x3 x5 x6 x7 ⟨a.val - 2, by omega⟩ ⟨n, by omega⟩ := by
    unfold prev2; split_ifs; · exact hs 6
    · exact hs 7
    · rfl
  rw [h1, h2]
  congr 1
  · congr 1
    · congr 1 <;> congr 1 <;> (pointwise; blk_ext)
    · congr 1; pointwise; blk_ext
  · pointwise; blk_ext

/-- The residual after the feed-forward part as the kernel computes it. -/
def kffn (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (sl : Vec Ideal S8x2816 .f32) (sr : Vec Ideal S8x2816 .f32) (x10 : Vec Ideal S2816x1024 .bf16) : FVec Ideal S512x1024 .f32 :=
  k0_pay23 (kmix x0 x1 x2 x3 x5) k0_pay7 (kgate x0 x1 x2 x3 x5 x6 x7 x8 x9 sl) (kur x0 x1 x2 x3 x5 x6 x7) (k0_pay17 (knrm x0 x1 x2 x3 x5 x6) (iota Kind.tc S512x1 32 [0] iota_S512x1_d0_w32) (View.ld x7 (Rect.unit ![0, 2816] ![1024, 2816] inb_S1024x5632_S1024x2816_0_2816)) sr) (k0_pay18 (iota Kind.tc S512x1 32 [0] iota_S512x1_d0_w32)) (k0_pay19 sr) (k0_pay20 sr) (k0_pay21 (knrm x0 x1 x2 x3 x5 x6) (View.ld x7 (Rect.unit ![0, 2816] ![1024, 2816] inb_S1024x5632_S1024x2816_0_2816))) (k0_pay22 (iota Kind.tc S512x1 32 [0] iota_S512x1_d0_w32)) (View.ld x8 (Rect.unit ![0, 2816] ![3, 2816] inb_S3x5632_S3x2816_0_2816)) (View.ld x9 (Rect.unit ![0, 2816] ![1, 2816] inb_S1x5632_S1x2816_0_2816)) x10

theorem kffn_at (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (sl : Vec Ideal S8x2816 .f32) (sr : Vec Ideal S8x2816 .f32) (x10 : Vec Ideal S2816x1024 .bf16) (a : Fin 512) (n : Fin 1024) :
    kffn x0 x1 x2 x3 x5 x6 x7 x8 x9 sl sr x10 (ix2 a n) = ffn (R1 x0 x1 x2 x3 x5 a) (H x0 x1 x2 x3 x5 x6 x7 x8 x9 (S2 sl sr) a) (fun k n => x10 (ix2 k n)) n := by
  unfold kffn ffn
  rw [pay23_at, kmix_at]
  refine congrArg (R1 x0 x1 x2 x3 x5 a n + ·) (Finset.sum_congr rfl fun k _ => ?_)
  rw [kgate_at x0 x1 x2 x3 x5 x6 x7 x8 x9 sl sr, pay21_at, pay17_at, kur_at]
  refine congrArg₂ (fun p q : EReal => p * q) (congrArg₂ (fun p q : EReal => p * q) rfl ?_) rfl
  have hu : ∀ b : Fin 512, k0_pay15 (knrm x0 x1 x2 x3 x5 x6) (View.ld x7 (Rect.unit ![0, 2816] ![1024, 2816] inb_S1024x5632_S1024x2816_0_2816)) (ix2 b k) = U x0 x1 x2 x3 x5 x6 x7 b ⟨2816 + k, by omega⟩ := fun b => kur_at x0 x1 x2 x3 x5 x6 x7 b k
  have hs : ∀ r : Fin 8, S2 sl sr r ⟨2816 + k, by omega⟩ = sr (ix2 r k) := fun r => by
    unfold S2; rw [dif_neg (by simp)]; congr 2; apply Fin.ext; simp
  rw [hu, hu]
  unfold H conv
  have h1 : prev1 (U x0 x1 x2 x3 x5 x6 x7) (S2 sl sr) a ⟨2816 + k, by omega⟩ = if a.val = 0 then sr (ix2 7 k) else U x0 x1 x2 x3 x5 x6 x7 ⟨a.val - 1, by omega⟩ ⟨2816 + k, by omega⟩ := by
    unfold prev1; split_ifs; · exact hs 7
    · rfl
  have h2 : prev2 (U x0 x1 x2 x3 x5 x6 x7) (S2 sl sr) a ⟨2816 + k, by omega⟩ = if a.val = 0 then sr (ix2 6 k) else if a.val = 1 then sr (ix2 7 k) else U x0 x1 x2 x3 x5 x6 x7 ⟨a.val - 2, by omega⟩ ⟨2816 + k, by omega⟩ := by
    unfold prev2; split_ifs; · exact hs 6
    · exact hs 7
    · rfl
  rw [h1, h2]
  congr 1
  · congr 1
    · congr 1 <;> congr 1 <;> (pointwise; blk_ext)
    · congr 1; pointwise; blk_ext
  · pointwise; blk_ext

/-- The block's result as the kernel computes it. -/
def kout (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (sl : Vec Ideal S8x2816 .f32) (sr : Vec Ideal S8x2816 .f32) (x4 : Vec Ideal S1x512x256 .f32) (x10 : Vec Ideal S2816x1024 .bf16) (x11 : Vec Ideal S1x1024 .f32) (x12 : Vec Ideal S1024x1024 .bf16) (x13 : Vec Ideal S256x1024 .bf16) (x14 : Vec Ideal S1x1024 .f32) : FVec Ideal S1x512x1024 .f32 :=
  k0_pay1 (k0_pay27 (kffn x0 x1 x2 x3 x5 x6 x7 x8 x9 sl sr x10) (k0_pay24 x11) (k0_pay25 (kmix x0 x1 x2 x3 x5) k0_pay7 (kgate x0 x1 x2 x3 x5 x6 x7 x8 x9 sl) (kur x0 x1 x2 x3 x5 x6 x7) (k0_pay17 (knrm x0 x1 x2 x3 x5 x6) (iota Kind.tc S512x1 32 [0] iota_S512x1_d0_w32) (View.ld x7 (Rect.unit ![0, 2816] ![1024, 2816] inb_S1024x5632_S1024x2816_0_2816)) sr) (k0_pay18 (iota Kind.tc S512x1 32 [0] iota_S512x1_d0_w32)) (k0_pay19 sr) (k0_pay20 sr) (k0_pay21 (knrm x0 x1 x2 x3 x5 x6) (View.ld x7 (Rect.unit ![0, 2816] ![1024, 2816] inb_S1024x5632_S1024x2816_0_2816))) (k0_pay22 (iota Kind.tc S512x1 32 [0] iota_S512x1_d0_w32)) (View.ld x8 (Rect.unit ![0, 2816] ![3, 2816] inb_S3x5632_S3x2816_0_2816)) (View.ld x9 (Rect.unit ![0, 2816] ![1, 2816] inb_S1x5632_S1x2816_0_2816)) x10) k0_pay26 x12 x4 x13 x14)

theorem kout_at (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (x8 : Vec Ideal S3x5632 .f32) (x9 : Vec Ideal S1x5632 .f32) (sl : Vec Ideal S8x2816 .f32) (sr : Vec Ideal S8x2816 .f32) (x4 : Vec Ideal S1x512x256 .f32) (x10 : Vec Ideal S2816x1024 .bf16) (x11 : Vec Ideal S1x1024 .f32) (x12 : Vec Ideal S1024x1024 .bf16) (x13 : Vec Ideal S256x1024 .bf16) (x14 : Vec Ideal S1x1024 .f32) (a : Fin 512) (n : Fin 1024) :
    kout x0 x1 x2 x3 x5 x6 x7 x8 x9 sl sr x4 x10 x11 x12 x13 x14 (ix3 0 a n) = B x0 x1 x2 x3 x5 x6 x7 x8 x9 (S2 sl sr) x4 x10 x11 x12 x13 x14 a n := by
  have h : k0_pay25 (kmix x0 x1 x2 x3 x5) k0_pay7 (kgate x0 x1 x2 x3 x5 x6 x7 x8 x9 sl) (kur x0 x1 x2 x3 x5 x6 x7) (k0_pay17 (knrm x0 x1 x2 x3 x5 x6) (iota Kind.tc S512x1 32 [0] iota_S512x1_d0_w32) (View.ld x7 (Rect.unit ![0, 2816] ![1024, 2816] inb_S1024x5632_S1024x2816_0_2816)) sr) (k0_pay18 (iota Kind.tc S512x1 32 [0] iota_S512x1_d0_w32)) (k0_pay19 sr) (k0_pay20 sr) (k0_pay21 (knrm x0 x1 x2 x3 x5 x6) (View.ld x7 (Rect.unit ![0, 2816] ![1024, 2816] inb_S1024x5632_S1024x2816_0_2816))) (k0_pay22 (iota Kind.tc S512x1 32 [0] iota_S512x1_d0_w32)) (View.ld x8 (Rect.unit ![0, 2816] ![3, 2816] inb_S3x5632_S3x2816_0_2816)) (View.ld x9 (Rect.unit ![0, 2816] ![1, 2816] inb_S1x5632_S1x2816_0_2816)) x10 (ix2 a 0) = ∑ l : Fin 1024, kffn x0 x1 x2 x3 x5 x6 x7 x8 x9 sl sr x10 (ix2 a l) * kffn x0 x1 x2 x3 x5 x6 x7 x8 x9 sl sr x10 (ix2 a l) := by
    pointwise [k0_pay25, kffn]
  unfold kout B
  rw [pay27_at _ _ _ _ _ _ _ _ _ h]
  simp only [kffn_at]

/-- The last eight rows of the block's first product. -/
def K (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (r : Fin 8) : Fin 5632 → EReal := U x0 x1 x2 x3 x5 x6 x7 ⟨504 + r, by omega⟩

/-- The newest store, read at a place it covers. -/
theorem canon_at {S : Shape} {e : EltTy} (r : Rect S) (w : r.shape.Idx → Elt Ideal e) (L : List (View.Piece (Elt Ideal) S e)) (x : r.shape.Idx) (y : S.Idx)
    (h : r.emb x = y) : View.canon (⟨r, w⟩ :: L) y = w x := by
  subst h
  exact View.canon_cons_emb r w L x

/-- A store before the newest, read at a place that it alone of the two covers. -/
theorem canon_next {S : Shape} {e : EltTy} (r r' : Rect S) (w : r.shape.Idx → Elt Ideal e) (w' : r'.shape.Idx → Elt Ideal e)
    (L : List (View.Piece (Elt Ideal) S e)) (x : r'.shape.Idx) (y : S.Idx) (hy : y ∉ r.set) (h : r'.emb x = y) :
    View.canon (⟨r, w⟩ :: ⟨r', w'⟩ :: L) y = w' x :=
  (View.canon_cons_of_not_mem ⟨r, w⟩ _ hy).trans (canon_at r' w' L x y h)

/-- The kept rows after the two stores of a step, whatever was stored before. -/
theorem canon_halves (wr wl : Vec Ideal S8x2816 .f32) (L : List (View.Piece (Elt Ideal) S8x5632 .f32)) (r : Fin 8) (n : Fin 5632) :
    View.canon (⟨Rect.unit ![0, 2816] ![8, 2816] inb_S8x5632_S8x2816_0_2816, wr⟩ :: ⟨Rect.unit ![0, 0] ![8, 2816] inb_S8x5632_S8x2816_0_0, wl⟩ :: L) (ix2 r n)
      = S2 wl wr r n := by
  unfold S2
  split_ifs with h
  · refine canon_next (S := S8x5632) (e := .f32) (Rect.unit ![0, 2816] ![8, 2816] inb_S8x5632_S8x2816_0_2816) (Rect.unit ![0, 0] ![8, 2816] inb_S8x5632_S8x2816_0_0) wr wl L (ix2 r ⟨n, h⟩) _ ?_ ?_
    · exact Rect.not_mem_set_of_axis _ _ 1 2816 2816 rfl rfl rfl (Or.inl h)
    · exact Rect.emb_eq_of_coords _ _ _ (Fin.forall_fin_two.2 ⟨by show r.val = 0 + 1 * r.val; omega, by show n.val = 0 + 1 * n.val; omega⟩)
  · have hn : n.val - 2816 < 2816 := by have := n.isLt; omega
    refine canon_at (S := S8x5632) (e := .f32) (Rect.unit ![0, 2816] ![8, 2816] inb_S8x5632_S8x2816_0_2816) wr _ (ix2 r ⟨n - 2816, hn⟩) _ ?_
    exact Rect.emb_eq_of_coords _ _ _ (Fin.forall_fin_two.2 ⟨by show r.val = 0 + 1 * r.val; omega, by show n.val = 2816 + 1 * (n.val - 2816); omega⟩)

/-- What a step stores to the kept rows is the last eight rows of its first product. -/
theorem kept (x0 : Vec Ideal S1x512x1024 .f32) (x1 : Vec Ideal S1x512x384 .f32) (x2 : Vec Ideal S1x512x256 .f32) (x3 : Vec Ideal S1x512x384 .f32) (x5 : Vec Ideal S1024x1024 .bf16) (x6 : Vec Ideal S1x1024 .f32) (x7 : Vec Ideal S1024x5632 .bf16) (r : Fin 8) (n : Fin 5632) :
    S2 (k0_pay9 (kmix x0 x1 x2 x3 x5) (k0_pay4 x6) (ksq x0 x1 x2 x3 x5) (View.ld x7 (Rect.unit ![0, 0] ![1024, 2816] inb_S1024x5632_S1024x2816_0_0))) (k0_pay16 (knrm x0 x1 x2 x3 x5 x6) (View.ld x7 (Rect.unit ![0, 2816] ![1024, 2816] inb_S1024x5632_S1024x2816_0_2816))) r n = K x0 x1 x2 x3 x5 x6 x7 r n := by
  unfold S2 K
  split_ifs with h
  · refine Eq.trans ?_ (kul_at x0 x1 x2 x3 x5 x6 x7 ⟨504 + r, by omega⟩ ⟨n, h⟩)
    pointwise [k0_pay9, kul]
    blk_ext
  · refine Eq.trans ?_ ((kur_at x0 x1 x2 x3 x5 x6 x7 ⟨504 + r, by omega⟩ ⟨n - 2816, by omega⟩).trans ?_)
    · pointwise [k0_pay16, kur]
      blk_ext
    · congr 1; apply Fin.ext; simp; omega

theorem scr_A (c : Dev nD) (t : Fin cfg0.N) (h0 : t.val % 16 = 0) (r : Fin 8) (n : Fin 5632) : (outsAt0 m c t.val t.isLt).2 (ix2 r n) = K (iblk m c 0 t) (iblk m c 1 t) (iblk m c 2 t) (iblk m c 3 t) (iblk m c 5 t) (iblk m c 6 t) (iblk m c 7 t) r n := by
  rw [outsAt0_A m c t h0]
  frame_out
  exact (canon_halves _ _ _ r n).trans (kept _ _ _ _ _ _ _ r n)

theorem scr_B (c : Dev nD) (t : Fin cfg0.N) (h0 : ¬t.val % 16 = 0) (r : Fin 8) (n : Fin 5632) : (outsAt0 m c t.val t.isLt).2 (ix2 r n) = K (iblk m c 0 t) (iblk m c 1 t) (iblk m c 2 t) (iblk m c 3 t) (iblk m c 5 t) (iblk m c 6 t) (iblk m c 7 t) r n := by
  rw [outsAt0_B m c t h0]
  frame_out
  exact (canon_halves _ _ _ r n).trans (kept _ _ _ _ _ _ _ r n)

theorem out_A (c : Dev nD) (t : Fin cfg0.N) (h0 : t.val % 16 = 0) (a : Fin 512) (n : Fin 1024) :
    (outsAt0 m c t.val t.isLt).1 (ix3 0 a n) = B (iblk m c 0 t) (iblk m c 1 t) (iblk m c 2 t) (iblk m c 3 t) (iblk m c 5 t) (iblk m c 6 t) (iblk m c 7 t) (iblk m c 8 t) (iblk m c 9 t) (fun _ _ => 0) (iblk m c 4 t) (iblk m c 10 t) (iblk m c 11 t) (iblk m c 12 t) (iblk m c 13 t) (iblk m c 14 t) a n := by
  rw [outsAt0_A m c t h0]
  frame_out
  refine Eq.trans (b := kout (iblk m c 0 t) (iblk m c 1 t) (iblk m c 2 t) (iblk m c 3 t) (iblk m c 5 t) (iblk m c 6 t) (iblk m c 7 t) (iblk m c 8 t) (iblk m c 9 t) _ _ (iblk m c 4 t) (iblk m c 10 t) (iblk m c 11 t) (iblk m c 12 t) (iblk m c 13 t) (iblk m c 14 t) (ix3 0 a n)) rfl ?_
  rw [kout_at]
  rw [View.readCov_fill (h := by decide), View.readCov_skip (h := by decide), View.readCov_fill (h := by decide)]
  congr 1
  funext r c'
  unfold S2
  split_ifs with h
  · pointwise [k0_pay2]
  · pointwise [k0_pay2]

theorem out_B (c : Dev nD) (t : Fin cfg0.N) (h0 : ¬t.val % 16 = 0) (a : Fin 512) (n : Fin 1024) :
    (outsAt0 m c t.val t.isLt).1 (ix3 0 a n) = B (iblk m c 0 t) (iblk m c 1 t) (iblk m c 2 t) (iblk m c 3 t) (iblk m c 5 t) (iblk m c 6 t) (iblk m c 7 t) (iblk m c 8 t) (iblk m c 9 t) (fun r c' => (outsAt0 m c (t.val - 1) (Nat.lt_of_le_of_lt (Nat.sub_le _ _) t.isLt)).2 (ix2 r c')) (iblk m c 4 t) (iblk m c 10 t) (iblk m c 11 t) (iblk m c 12 t) (iblk m c 13 t) (iblk m c 14 t) a n := by
  rw [outsAt0_B m c t h0]
  frame_out
  refine Eq.trans (b := kout (iblk m c 0 t) (iblk m c 1 t) (iblk m c 2 t) (iblk m c 3 t) (iblk m c 5 t) (iblk m c 6 t) (iblk m c 7 t) (iblk m c 8 t) (iblk m c 9 t) _ _ (iblk m c 4 t) (iblk m c 10 t) (iblk m c 11 t) (iblk m c 12 t) (iblk m c 13 t) (iblk m c 14 t) (ix3 0 a n)) rfl ?_
  rw [kout_at]
  simp only [read_unread_whole]
  congr 1
  funext r c'
  unfold S2
  split_ifs with h
  · pointwise
    blk_ext
  · pointwise
    blk_ext

/-! ## The blocks as parts of the arguments -/

/-- The fifteen arguments. -/
@[ext] structure Args where
  x : FVec Ideal S4x8192x1024 .f32
  ya : FVec Ideal S4x8192x384 .f32
  yb : FVec Ideal S4x8192x256 .f32
  yc : FVec Ideal S4x8192x384 .f32
  p : FVec Ideal S4x8192x256 .f32
  wo : FVec Ideal S1024x1024 .f32
  nf : FVec Ideal S1024 .f32
  wu : FVec Ideal S1024x5632 .f32
  cw : FVec Ideal S3x5632 .f32
  cb : FVec Ideal S5632 .f32
  wd : FVec Ideal S2816x1024 .f32
  np : FVec Ideal S1024 .f32
  we : FVec Ideal S256x1024 .f32
  wg : FVec Ideal S1024x1024 .f32
  nl : FVec Ideal S1024 .f32

/-- The arguments as the memory holds them. -/
def args (c : Dev nD) : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩

/-- The block index of every window at grid point `t`: batch `t / 16`, block of rows `t % 16`. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![t.val / 16, t.val % 16, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0]
    ∧ win0_15.index t = ![t.val / 16, t.val % 16, 0] ∧ t.val < 64 :=
  (by decide +kernel : ∀ t : Fin grid0.N, _)

/-- The batch of grid point `t`, -/
def bt (t : Fin cfg0.N) : Fin 4 := ⟨t.val / 16, by have := (idx t).2.2.2.2.2.2.2.2.2.2.2.2.2.2.2.2; omega⟩
/-- and row `a` of its block in the whole sequence. -/
def sq (t : Fin cfg0.N) (a : Fin 512) : Fin 8192 := ⟨t.val % 16 * 512 + a, by omega⟩

theorem blk_0 (c : Dev nD) (t : Fin cfg0.N) (a : Fin 512) (k : Fin 1024) : iblk m c 0 t (ix3 (0 : Fin 1) a k) = (args m c).x (ix3 (bt t) (sq t a) k) := by
  blk_simp [iblk, idx t]
  entry_read
  pointwise [args]
  blk_ext [idx t, bt, sq]

theorem blk_1 (c : Dev nD) (t : Fin cfg0.N) (a : Fin 512) (k : Fin 384) : iblk m c 1 t (ix3 (0 : Fin 1) a k) = (args m c).ya (ix3 (bt t) (sq t a) k) := by
  blk_simp [iblk, idx t]
  entry_read
  pointwise [args]
  blk_ext [idx t, bt, sq]

theorem blk_2 (c : Dev nD) (t : Fin cfg0.N) (a : Fin 512) (k : Fin 256) : iblk m c 2 t (ix3 (0 : Fin 1) a k) = (args m c).yb (ix3 (bt t) (sq t a) k) := by
  blk_simp [iblk, idx t]
  entry_read
  pointwise [args]
  blk_ext [idx t, bt, sq]

theorem blk_3 (c : Dev nD) (t : Fin cfg0.N) (a : Fin 512) (k : Fin 384) : iblk m c 3 t (ix3 (0 : Fin 1) a k) = (args m c).yc (ix3 (bt t) (sq t a) k) := by
  blk_simp [iblk, idx t]
  entry_read
  pointwise [args]
  blk_ext [idx t, bt, sq]

theorem blk_4 (c : Dev nD) (t : Fin cfg0.N) (a : Fin 512) (k : Fin 256) : iblk m c 4 t (ix3 (0 : Fin 1) a k) = (args m c).p (ix3 (bt t) (sq t a) k) := by
  blk_simp [iblk, idx t]
  entry_read
  pointwise [args]
  blk_ext [idx t, bt, sq]

theorem blk_5 (c : Dev nD) (t : Fin cfg0.N) (k : Fin 1024) (n : Fin 1024) : iblk m c 5 t (ix2 k n) = (args m c).wo (ix2 k n) := by
  blk_simp [iblk, idx t]
  entry_read
  pointwise [args]
  blk_ext [idx t]

theorem blk_7 (c : Dev nD) (t : Fin cfg0.N) (k : Fin 1024) (n : Fin 5632) : iblk m c 7 t (ix2 k n) = (args m c).wu (ix2 k n) := by
  blk_simp [iblk, idx t]
  entry_read
  pointwise [args]
  blk_ext [idx t]

theorem blk_8 (c : Dev nD) (t : Fin cfg0.N) (k : Fin 3) (n : Fin 5632) : iblk m c 8 t (ix2 k n) = (args m c).cw (ix2 k n) := by
  blk_simp [iblk, idx t]
  entry_read
  pointwise [args]
  blk_ext [idx t]

theorem blk_10 (c : Dev nD) (t : Fin cfg0.N) (k : Fin 2816) (n : Fin 1024) : iblk m c 10 t (ix2 k n) = (args m c).wd (ix2 k n) := by
  blk_simp [iblk, idx t]
  entry_read
  pointwise [args]
  blk_ext [idx t]

theorem blk_12 (c : Dev nD) (t : Fin cfg0.N) (k : Fin 1024) (n : Fin 1024) : iblk m c 12 t (ix2 k n) = (args m c).wg (ix2 k n) := by
  blk_simp [iblk, idx t]
  entry_read
  pointwise [args]
  blk_ext [idx t]

theorem blk_13 (c : Dev nD) (t : Fin cfg0.N) (k : Fin 256) (n : Fin 1024) : iblk m c 13 t (ix2 k n) = (args m c).we (ix2 k n) := by
  blk_simp [iblk, idx t]
  entry_read
  pointwise [args]
  blk_ext [idx t]

theorem blk_6 (c : Dev nD) (t : Fin cfg0.N) (k : Fin 1024) : iblk m c 6 t (ix2 (0 : Fin 1) k) = (args m c).nf (ix1 k) := by
  blk_simp [iblk, idx t]
  entry_read
  pointwise [args]
  blk_ext [idx t]

theorem blk_9 (c : Dev nD) (t : Fin cfg0.N) (k : Fin 5632) : iblk m c 9 t (ix2 (0 : Fin 1) k) = (args m c).cb (ix1 k) := by
  blk_simp [iblk, idx t]
  entry_read
  pointwise [args]
  blk_ext [idx t]

theorem blk_11 (c : Dev nD) (t : Fin cfg0.N) (k : Fin 1024) : iblk m c 11 t (ix2 (0 : Fin 1) k) = (args m c).np (ix1 k) := by
  blk_simp [iblk, idx t]
  entry_read
  pointwise [args]
  blk_ext [idx t]

theorem blk_14 (c : Dev nD) (t : Fin cfg0.N) (k : Fin 1024) : iblk m c 14 t (ix2 (0 : Fin 1) k) = (args m c).nl (ix1 k) := by
  blk_simp [iblk, idx t]
  entry_read
  pointwise [args]
  blk_ext [idx t]

/-! ## The result as one function of the arguments -/

/-- Row `s` of the residual after the mixers. -/
def X1 (A : Args) (b : Fin 4) (s : Fin 8192) : Fin 1024 → EReal :=
  mixed (fun k => A.x (ix3 b s k)) (fun k => A.ya (ix3 b s k)) (fun k => A.yb (ix3 b s k)) (fun k => A.yc (ix3 b s k)) (fun k n => A.wo (ix2 k n))

/-- The first product of the feed-forward part with two rows of zeros before the first. -/
def Up (A : Args) (b : Fin 4) (q : ℕ) : Fin 5632 → EReal :=
  if h : 2 ≤ q ∧ q < 8194 then hid (X1 A b ⟨q - 2, by omega⟩) (fun k => A.nf (ix1 k)) (fun k c => A.wu (ix2 k c)) else fun _ => 0

/-- Row `s` of the convolution. -/
def C1 (A : Args) (b : Fin 4) (s : Fin 8192) : Fin 5632 → EReal :=
  conv (fun i c => A.cw (ix2 i c)) (fun c => A.cb (ix1 c)) (Up A b s) (Up A b (s + 1)) (Up A b (s + 2))

/-- Row `s` of the residual after the feed-forward part. -/
def X2 (A : Args) (b : Fin 4) (s : Fin 8192) : Fin 1024 → EReal :=
  ffn (X1 A b s) (C1 A b s) (fun k n => A.wd (ix2 k n))

/-- Row `s` of the residual after the per-layer embedding. -/
def X3 (A : Args) (b : Fin 4) (s : Fin 8192) : Fin 1024 → EReal :=
  ple (X2 A b s) (fun k => A.np (ix1 k)) (fun k n => A.wg (ix2 k n)) (fun k => A.p (ix3 b s k)) (fun k n => A.we (ix2 k n))

/-- The layer's result. -/
def G (A : Args) : FVec Ideal S4x8192x1024 .f32 := fun j =>
  nrm (X3 A (j 0) (j 1)) (fun k => A.nl (ix1 k)) (j 2)

/-- A block's rows of the residual are the sequence's, -/
theorem R1_at (c : Dev nD) (t : Fin cfg0.N) (a : Fin 512) :
    R1 (iblk m c 0 t) (iblk m c 1 t) (iblk m c 2 t) (iblk m c 3 t) (iblk m c 5 t) a = X1 (args m c) (bt t) (sq t a) := by
  unfold R1 X1
  simp only [blk_0, blk_1, blk_2, blk_3, blk_5]

/-- and so are those of the first product. -/
theorem U_at (c : Dev nD) (t : Fin cfg0.N) (a : Fin 512) :
    U (iblk m c 0 t) (iblk m c 1 t) (iblk m c 2 t) (iblk m c 3 t) (iblk m c 5 t) (iblk m c 6 t) (iblk m c 7 t) a = Up (args m c) (bt t) ((sq t a).val + 2) := by
  unfold U Up
  rw [dif_pos ⟨by omega, by have := (sq t a).isLt; omega⟩, R1_at]
  simp only [blk_6, blk_7]
  rfl

/-- The rows kept after a step are the last eight of its block. -/
theorem kept_at (c : Dev nD) (t : Fin cfg0.N) (r : Fin 8) (n : Fin 5632) :
    (outsAt0 m c t.val t.isLt).2 (ix2 r n) = Up (args m c) (bt t) (t.val % 16 * 512 + 506 + r) n := by
  have h : (outsAt0 m c t.val t.isLt).2 (ix2 r n) = K (iblk m c 0 t) (iblk m c 1 t) (iblk m c 2 t) (iblk m c 3 t) (iblk m c 5 t) (iblk m c 6 t) (iblk m c 7 t) r n := by
    by_cases h0 : t.val % 16 = 0
    · exact scr_A m c t h0 r n
    · exact scr_B m c t h0 r n
  refine h.trans ((congrFun (U_at m c t ⟨504 + r, by omega⟩) n).trans ?_)
  congr 1
  show t.val % 16 * 512 + (504 + r.val) + 2 = _
  omega

/-- A step's result, if the rows kept before it are the two before its block. -/
theorem B_at (c : Dev nD) (t : Fin cfg0.N) (s : Fin 8 → Fin 5632 → EReal) (a : Fin 512) (n : Fin 1024)
    (h6 : s 6 = Up (args m c) (bt t) (t.val % 16 * 512)) (h7 : s 7 = Up (args m c) (bt t) (t.val % 16 * 512 + 1)) :
    B (iblk m c 0 t) (iblk m c 1 t) (iblk m c 2 t) (iblk m c 3 t) (iblk m c 5 t) (iblk m c 6 t) (iblk m c 7 t) (iblk m c 8 t) (iblk m c 9 t) s (iblk m c 4 t) (iblk m c 10 t) (iblk m c 11 t) (iblk m c 12 t) (iblk m c 13 t) (iblk m c 14 t) a n = G (args m c) (ix3 (bt t) (sq t a) n) := by
  have hp1 : prev1 (U (iblk m c 0 t) (iblk m c 1 t) (iblk m c 2 t) (iblk m c 3 t) (iblk m c 5 t) (iblk m c 6 t) (iblk m c 7 t)) s a = Up (args m c) (bt t) ((sq t a).val + 1) := by
    unfold prev1
    split_ifs with h
    · refine h7.trans (congrArg _ ?_)
      show _ = t.val % 16 * 512 + a.val + 1
      omega
    · refine (U_at m c t _).trans (congrArg _ ?_)
      show t.val % 16 * 512 + (a.val - 1) + 2 = t.val % 16 * 512 + a.val + 1
      omega
  have hp2 : prev2 (U (iblk m c 0 t) (iblk m c 1 t) (iblk m c 2 t) (iblk m c 3 t) (iblk m c 5 t) (iblk m c 6 t) (iblk m c 7 t)) s a = Up (args m c) (bt t) (sq t a).val := by
    unfold prev2
    split_ifs with h h'
    · refine h6.trans (congrArg _ ?_)
      show _ = t.val % 16 * 512 + a.val
      omega
    · refine h7.trans (congrArg _ ?_)
      show _ = t.val % 16 * 512 + a.val
      omega
    · refine (U_at m c t _).trans (congrArg _ ?_)
      show t.val % 16 * 512 + (a.val - 2) + 2 = t.val % 16 * 512 + a.val
      omega
  show _ = nrm (X3 (args m c) (bt t) (sq t a)) (fun k => (args m c).nl (ix1 k)) n
  unfold B H X3 X2 C1
  rw [hp1, hp2, R1_at, U_at]
  simp only [blk_4, blk_8, blk_9, blk_10, blk_11, blk_12, blk_13, blk_14]

/-- What every step stores is the result's rows of its block. -/
theorem out_at (c : Dev nD) (t : Fin cfg0.N) (a : Fin 512) (n : Fin 1024) :
    (outsAt0 m c t.val t.isLt).1 (ix3 0 a n) = G (args m c) (ix3 (bt t) (sq t a) n) := by
  by_cases h0 : t.val % 16 = 0
  · refine (out_A m c t h0 a n).trans (B_at m c t _ a n ?_ ?_) <;>
    · unfold Up
      rw [dif_neg (by omega)]
  · have hb : bt ⟨t.val - 1, Nat.lt_of_le_of_lt (Nat.sub_le _ _) t.isLt⟩ = bt t :=
      Fin.ext (show (t.val - 1) / 16 = t.val / 16 by omega)
    refine (out_B m c t h0 a n).trans (B_at m c t _ a n ?_ ?_) <;>
    · funext n
      refine (kept_at m c ⟨t.val - 1, Nat.lt_of_le_of_lt (Nat.sub_le _ _) t.isLt⟩ _ n).trans ?_
      rw [hb]
      congr 1
      show (t.val - 1) % 16 * 512 + 506 + _ = _
      simp
      omega

/-- The result array after the kernel's run. -/
theorem final (c : Dev nD) : (dats m 0 c).arrAt 15 (cfgs 0).N = G (args m c) := by
  refine (dats m 0 c).arrAt_eq_of_covers 15 _ (by decide +kernel) fun t hf y => ?_
  blk_simp
  rw [after0_15]
  idx_vars y
  obtain rfl : y0 = 0 := Subsingleton.elim _ _
  refine (out_at m c t y1 y2).trans (congrArg _ ?_)
  blk_ext [idx t, bt, sq]

end Cert.PostIdeal.Val

end
-- ==== Proof.PostPair.lean ====
/- The call that ends the layer: the reference computes the closed form `G` that the kernel leaves, so the two leave the
   same array. -/
module

public import proofs.«01_k».proof.Proof.PostValue

@[expose] public section

set_option maxRecDepth 16384

noncomputable section

namespace Cert.PostRefIdeal.Val

open Idealize.ShloMosaic Idealize.ShloMosaic.TcCoe Idealize.SL.Sem Idealize.ShloMosaic.StableHlo
open Cert.PostRefIdeal Cert.PostRefIdeal.Gen Cert.PostRefIdeal.Value
open Cert.PostIdeal.Val (Args nrm mixed hid conv sg ffn ple X1 Up C1 X2 X3 G)

variable (V0 : Valuation τ sig (Elt Ideal))

/-- The arguments as the reference's program finds them. -/
def rargs : Args := ⟨V0 (Proc.devRef .tc main_arg0), V0 (Proc.devRef .tc main_arg1), V0 (Proc.devRef .tc main_arg2), V0 (Proc.devRef .tc main_arg3),
  V0 (Proc.devRef .tc main_arg4), V0 (Proc.devRef .tc main_arg5), V0 (Proc.devRef .tc main_arg6), V0 (Proc.devRef .tc main_arg7),
  V0 (Proc.devRef .tc main_arg8), V0 (Proc.devRef .tc main_arg9), V0 (Proc.devRef .tc main_arg10), V0 (Proc.devRef .tc main_arg11),
  V0 (Proc.devRef .tc main_arg12), V0 (Proc.devRef .tc main_arg13), V0 (Proc.devRef .tc main_arg14)⟩

/-- A sum over the joined mixers' columns is the sum of the three mixers' sums. -/
theorem sum_three (f : Fin 1024 → EReal) :
    ∑ k : Fin 1024, f k = (∑ k : Fin 384, f ⟨k, by omega⟩) + (∑ k : Fin 256, f ⟨384 + k, by omega⟩) + ∑ k : Fin 384, f ⟨640 + k, by omega⟩ := by
  rw [Fin.sum_univ_add (a := 640) (b := 384) f, Fin.sum_univ_add (a := 384) (b := 256)]
  rfl

/-- The reference's residual after the mixers, -/
theorem v2_at (b : Fin 4) (s : Fin 8192) (n : Fin 1024) : res_main_v2 V0 (ix3 b s n) = X1 (rargs V0) b s n := by
  unfold X1 mixed
  pointwise [res_main_v2, rargs]
  rw [sum_three, ← add_assoc, ← add_assoc]
  congr 1

/-- its first product with the rows of zeros, -/
theorem v17_at (b : Fin 4) (q : Fin 8194) (n : Fin 5632) : res_main_v17 V0 (ix3 b q n) = Up (rargs V0) b q n := by
  pointwise [res_main_v17]
  unfold Up
  by_cases h : 2 ≤ q.val
  · rw [dif_pos ⟨h, by omega⟩, dif_pos ⟨h, q.isLt⟩]
    simp only [v2_at]
    rfl
  · rw [dif_neg (fun h' => h h'.1), dif_neg (fun h' => h h'.1)]
    simp [FloatOps.sitofp]

/-- its convolution, -/
theorem v40_at (b : Fin 4) (s : Fin 8192) (n : Fin 5632) : res_main_v40 V0 (ix3 b s n) = C1 (rargs V0) b s n := by
  pointwise [res_main_v40]
  simp only [v17_at]
  unfold C1 conv
  rw [add_comm 1 s.val, add_comm 2 s.val]
  refine congrArg₂ (fun p q : EReal => p + q) (congrArg₂ (fun p q : EReal => p + q) (congrArg₂ (fun p q : EReal => p + q) ?_ ?_) ?_) rfl
  all_goals exact mul_comm (G := EReal) _ _

/-- its residual after the feed-forward part, -/
theorem v46_at (b : Fin 4) (s : Fin 8192) (n : Fin 1024) : res_main_v46 V0 (ix3 b s n) = X2 (rargs V0) b s n := by
  unfold X2 ffn sg
  pointwise [res_main_v46, res_main_v41]
  simp only [v2_at, v40_at]
  rfl

/-- its residual after the per-layer embedding, -/
theorem v69_at (b : Fin 4) (s : Fin 8192) (n : Fin 1024) : res_main_v69 V0 (ix3 b s n) = X3 (rargs V0) b s n := by
  unfold X3 ple nrm sg
  pointwise [res_main_v69]
  simp only [v46_at]
  rfl

/-- its result. -/
theorem v82_at : val2 V0 (Proc.devRef .tc main_v82) = G (rargs V0) := by
  refine (val2_main_v82 V0).trans ?_
  funext j
  idx_vars j
  show _ = nrm (X3 (rargs V0) j0 j1) (fun k => (rargs V0).nl (ix1 k)) j2
  unfold nrm
  pointwise []
  simp only [v69_at]
  rfl

set_option maxHeartbeats 2000000 in
/-- The call that ends the layer and its reference leave the same array. -/
theorem algebraic : Cert.algebraic_PostIdeal_PostRefIdeal := by
  pair_intro
  · run_from Cert.PostIdeal.Gen.run_main m g
  · run_from Cert.PostRefIdeal.Value.run m' g'
    obtain ⟨h0, h1, h2, h3, h4, h5, h6, h7, h8, h9, h10, h11, h12, h13, h14⟩ := hagree c
    have ha : rargs (launchContents m' c) = Cert.PostIdeal.Val.args m c :=
      Args.ext h0 h1 h2 h3 h4 h5 h6 h7 h8 h9 h10 h11 h12 h13 h14
    rw [← h14]
    exact (val2_main_v82 (launchContents m' c)).symm.trans ((v82_at _).trans ((congrArg G ha).trans (Cert.PostIdeal.Val.final m c).symm))

end Cert.PostRefIdeal.Val

end
-- ==== Proof.lean ====
module

public import proofs.«01_k».proof.Defs
public import proofs.«01_k».proof.Proof.KFrame
public import proofs.«01_k».proof.Proof.KIFrame
public import proofs.«01_k».proof.Proof.RFrame
public import proofs.«01_k».proof.Proof.InProjValue
public import proofs.«01_k».proof.Proof.PostPair
public import proofs.«01_k».proof.Proof.Gen.InProj.Frame
public import proofs.«01_k».proof.Proof.Gen.Post.Frame
public import Idealize.ShloMosaic.Lib.Quiescent

@[expose] public section

noncomputable section

namespace Cert.Proof

open Idealize.ShloMosaic Idealize.SL.Sem

/-- The input projection's reference runs and leaves its arguments as they were. -/
theorem frame_inproj_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- So does the reference of the call that ends the layer. -/
theorem frame_post_ref : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Post.Gen.facts, Cert.PostIdeal.Gen.facts, Cert.PostRefIdeal.Gen.facts,
  fun m ρ _ => Cert.Kernel.Dil.frame m ρ,
  fun m ρ _ => Cert.KernelIdeal.Dil.frame m ρ,
  Cert.ReferenceIdeal.Dil.frame,
  fun m ρ _ => Cert.InProj.Gen.frame m ρ,
  fun m ρ _ => Cert.InProjIdeal.Gen.frame m ρ,
  frame_inproj_ref,
  fun m ρ _ => Cert.Post.Gen.frame m ρ,
  fun m ρ _ => Cert.PostIdeal.Gen.frame m ρ,
  frame_post_ref,
  IdealRules.named_const.statement _ _ _ _ _ rfl,
  trivial, Cert.InProjIdeal.Val.algebraic, trivial, Cert.PostRefIdeal.Val.algebraic⟩

end Cert.Proof

end
